-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S16384x26 : Shape := ⟨2, ![16384, 26]⟩
abbrev S26x100000x32 : Shape := ⟨3, ![26, 100000, 32]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S26x100000x32 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Kernel.lean ====
abbrev S16384x26 : Shape := ⟨2, ![16384, 26]⟩
abbrev S26x100000x32 : Shape := ⟨3, ![26, 100000, 32]⟩
abbrev S26x16384 : Shape := ⟨2, ![26, 16384]⟩
abbrev S26x32x100000 : Shape := ⟨3, ![26, 32, 100000]⟩
abbrev S832x16384 : Shape := ⟨2, ![832, 16384]⟩
abbrev S100000 : Shape := ⟨1, ![100000]⟩
abbrev S16384 : Shape := ⟨1, ![16384]⟩
abbrev S8192 : Shape := ⟨1, ![8192]⟩
abbrev S_ : Shape := ⟨0, ![]⟩
abbrev S1x1x100000 : Shape := ⟨3, ![1, 1, 100000]⟩
abbrev S1x16384 : Shape := ⟨2, ![1, 16384]⟩
abbrev S16 : Shape := ⟨1, ![16]⟩
abbrev S1x8192 : Shape := ⟨2, ![1, 8192]⟩
abbrev S16384x832 : Shape := ⟨2, ![16384, 832]⟩

abbrev nBuf : Table → Nat
  | .hbm => 6
  | .local .scVector .vmem => 3
  | _ => 0

abbrev bufTy : (tb : Table) → Fin (nBuf tb) → BufTy
  | .hbm, ⟨0, _⟩ => ⟨S16384x26, .i32⟩
  | .hbm, ⟨1, _⟩ => ⟨S26x100000x32, .f32⟩
  | .hbm, ⟨2, _⟩ => ⟨S26x16384, .i32⟩
  | .hbm, ⟨3, _⟩ => ⟨S26x32x100000, .f32⟩
  | .hbm, ⟨4, _⟩ => ⟨S832x16384, .f32⟩
  | .hbm, ⟨5, _⟩ => ⟨S16384x832, .f32⟩
  | .local .scVector .vmem, ⟨0, _⟩ => ⟨S100000, .f32⟩
  | .local .scVector .vmem, ⟨1, _⟩ => ⟨S16384, .i32⟩
  | .local .scVector .vmem, ⟨2, _⟩ => ⟨S8192, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c26_i32 : BitVec 32 := 26#32
  let v2 : BitVec 32 := Scalar.addi c0_i32_0 c26_i32
  let c1_i32 : BitVec 32 := 1#32
  ⟨c0_i32_0, v2, c1_i32⟩
def k0_off1 (i : grid0.Coords) (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let c32_i32 : BitVec 32 := 32#32
  let v3 : BitVec 32 := Scalar.muli arg9 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v3 v1
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c32_i32_2 : BitVec 32 := 32#32
  let c0_i32_5 : BitVec 32 := 0#32
  let v11 : BitVec 1 := Scalar.cmpi .sgt c32_i32_2 c0_i32_5
  let v12 : BitVec 32 := Scalar.extui v11
  let c0_i32_6 : BitVec 32 := 0#32
  let v13 : BitVec 1 := Scalar.cmpi .slt c32_i32_2 c0_i32_6
  let v14 : BitVec 32 := Scalar.extui v13
  let v15 : BitVec 32 := Scalar.subi v12 v14
  let v16 : BitVec 1 := Scalar.cmpi .ne v10 v15
  let v17 : BitVec 32 := Scalar.remsi v4 c32_i32_2
  let c0_i32_7 : BitVec 32 := 0#32
  let v18 : BitVec 1 := Scalar.cmpi .ne v17 c0_i32_7
  let v19 : BitVec 1 := Scalar.andi v16 v18
  let v5 : BitVec 32 := Scalar.divsi v4 c32_i32_2
  let c1_i32_8 : BitVec 32 := 1#32
  let v20 : BitVec 32 := Scalar.subi v5 c1_i32_8
  let v21 : BitVec 32 := Scalar.select v19 v20 v5
  let c32_i32_9 : BitVec 32 := 32#32
  let v22 : BitVec 32 := Scalar.muli v21 c32_i32_9
  let v23 : BitVec 32 := Scalar.subi v4 v22
  let c0_i32_10 : BitVec 32 := 0#32
  ![v21.toNat, v23.toNat, 0]
def k0_off2 (i : grid0.Coords) (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c32_i32 : BitVec 32 := 32#32
  let v3 : BitVec 32 := Scalar.muli arg9 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v3 v1
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c32_i32_2 : BitVec 32 := 32#32
  let c0_i32_5 : BitVec 32 := 0#32
  let v11 : BitVec 1 := Scalar.cmpi .sgt c32_i32_2 c0_i32_5
  let v12 : BitVec 32 := Scalar.extui v11
  let c0_i32_6 : BitVec 32 := 0#32
  let v13 : BitVec 1 := Scalar.cmpi .slt c32_i32_2 c0_i32_6
  let v14 : BitVec 32 := Scalar.extui v13
  let v15 : BitVec 32 := Scalar.subi v12 v14
  let v16 : BitVec 1 := Scalar.cmpi .ne v10 v15
  let v17 : BitVec 32 := Scalar.remsi v4 c32_i32_2
  let c0_i32_7 : BitVec 32 := 0#32
  let v18 : BitVec 1 := Scalar.cmpi .ne v17 c0_i32_7
  let v19 : BitVec 1 := Scalar.andi v16 v18
  let v5 : BitVec 32 := Scalar.divsi v4 c32_i32_2
  let c1_i32_8 : BitVec 32 := 1#32
  let v20 : BitVec 32 := Scalar.subi v5 c1_i32_8
  let v21 : BitVec 32 := Scalar.select v19 v20 v5
  let c0_i32_19_r0 : BitVec 32 := 0#32
  ![v21.toNat, 0]
@[reducible] def k0_t2_loop : Scf.Loop 32 :=
  let c0_i32_15 : BitVec 32 := 0#32
  let c2_i32_16 : BitVec 32 := 2#32
  let v32 : BitVec 32 := Scalar.addi c0_i32_15 c2_i32_16
  let c1_i32_17 : BitVec 32 := 1#32
  ⟨c0_i32_15, v32, c1_i32_17⟩
@[reducible] def k0_t3_loop : Scf.Loop 32 :=
  let c0_i32_20 : BitVec 32 := 0#32
  let c64_i32 : BitVec 32 := 64#32
  let v33 : BitVec 32 := Scalar.addi c0_i32_20 c64_i32
  let c1_i32_21 : BitVec 32 := 1#32
  ⟨c0_i32_20, v33, c1_i32_21⟩
def k0_off3 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_23 : BitVec 32 := 8192#32
  let v35 : BitVec 32 := Scalar.muli arg10 c8192_i32_23
  let c0_i32_20 : BitVec 32 := 0#32
  let c1_i32_21 : BitVec 32 := 1#32
  let arg11 : BitVec 32 := Scf.iv c0_i32_20 c1_i32_21 k0_t3
  let c128_i32 : BitVec 32 := 128#32
  let v36 : BitVec 32 := Scalar.muli arg11 c128_i32
  let v37 : BitVec 32 := Scalar.addi v35 v36
  let c0_i32_24 : BitVec 32 := 0#32
  let v38 : BitVec 32 := Scalar.addi v37 c0_i32_24
  let v41 : Index := Scalar.indexCast v38
  ![v41.toNat]

def k0_chk1 (v42 : IVec S16 32) : Prop :=
  (∀ a x, ((![v42] : Fin 1 → IVec S16 32) a x).toNat < S100000.size a)
theorem k0_idx1_inb : ∀ (v42 : IVec S16 32) (k0_hw1 : k0_chk1 v42), ∀ a x, ((![v42] : Fin 1 → IVec S16 32) a x).toNat < S100000.size a := fun v42 k0_hw1 => k0_hw1
def k0_off4 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_25 : BitVec 32 := 128#32
  let v39 : BitVec 32 := Scalar.muli arg11 c128_i32_25
  let c0_i32_26 : BitVec 32 := 0#32
  let v40 : BitVec 32 := Scalar.addi v39 c0_i32_26
  let v44 : Index := Scalar.indexCast v40
  ![v44.toNat]
def k0_off5 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_27 : BitVec 32 := 8192#32
  let v46 : BitVec 32 := Scalar.muli arg10 c8192_i32_27
  let c0_i32_20 : BitVec 32 := 0#32
  let c1_i32_21 : BitVec 32 := 1#32
  let arg11 : BitVec 32 := Scf.iv c0_i32_20 c1_i32_21 k0_t3
  let c128_i32_28 : BitVec 32 := 128#32
  let v47 : BitVec 32 := Scalar.muli arg11 c128_i32_28
  let v48 : BitVec 32 := Scalar.addi v46 v47
  let c16_i32 : BitVec 32 := 16#32
  let v49 : BitVec 32 := Scalar.addi v48 c16_i32
  let v52 : Index := Scalar.indexCast v49
  ![v52.toNat]

def k0_chk2 (v53 : IVec S16 32) : Prop :=
  (∀ a x, ((![v53] : Fin 1 → IVec S16 32) a x).toNat < S100000.size a)
theorem k0_idx2_inb : ∀ (v53 : IVec S16 32) (k0_hw2 : k0_chk2 v53), ∀ a x, ((![v53] : Fin 1 → IVec S16 32) a x).toNat < S100000.size a := fun v53 k0_hw2 => k0_hw2
def k0_off6 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_29 : BitVec 32 := 128#32
  let v50 : BitVec 32 := Scalar.muli arg11 c128_i32_29
  let c16_i32_30 : BitVec 32 := 16#32
  let v51 : BitVec 32 := Scalar.addi v50 c16_i32_30
  let v55 : Index := Scalar.indexCast v51
  ![v55.toNat]
def k0_off7 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_31 : BitVec 32 := 8192#32
  let v57 : BitVec 32 := Scalar.muli arg10 c8192_i32_31
  let c0_i32_20 : BitVec 32 := 0#32
  let c1_i32_21 : BitVec 32 := 1#32
  let arg11 : BitVec 32 := Scf.iv c0_i32_20 c1_i32_21 k0_t3
  let c128_i32_32 : BitVec 32 := 128#32
  let v58 : BitVec 32 := Scalar.muli arg11 c128_i32_32
  let v59 : BitVec 32 := Scalar.addi v57 v58
  let c32_i32_33 : BitVec 32 := 32#32
  let v60 : BitVec 32 := Scalar.addi v59 c32_i32_33
  let v63 : Index := Scalar.indexCast v60
  ![v63.toNat]

def k0_chk3 (v64 : IVec S16 32) : Prop :=
  (∀ a x, ((![v64] : Fin 1 → IVec S16 32) a x).toNat < S100000.size a)
theorem k0_idx3_inb : ∀ (v64 : IVec S16 32) (k0_hw3 : k0_chk3 v64), ∀ a x, ((![v64] : Fin 1 → IVec S16 32) a x).toNat < S100000.size a := fun v64 k0_hw3 => k0_hw3
def k0_off8 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_34 : BitVec 32 := 128#32
  let v61 : BitVec 32 := Scalar.muli arg11 c128_i32_34
  let c32_i32_35 : BitVec 32 := 32#32
  let v62 : BitVec 32 := Scalar.addi v61 c32_i32_35
  let v66 : Index := Scalar.indexCast v62
  ![v66.toNat]
def k0_off9 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_36 : BitVec 32 := 8192#32
  let v68 : BitVec 32 := Scalar.muli arg10 c8192_i32_36
  let c0_i32_20 : BitVec 32 := 0#32
  let c1_i32_21 : BitVec 32 := 1#32
  let arg11 : BitVec 32 := Scf.iv c0_i32_20 c1_i32_21 k0_t3
  let c128_i32_37 : BitVec 32 := 128#32
  let v69 : BitVec 32 := Scalar.muli arg11 c128_i32_37
  let v70 : BitVec 32 := Scalar.addi v68 v69
  let c48_i32 : BitVec 32 := 48#32
  let v71 : BitVec 32 := Scalar.addi v70 c48_i32
  let v74 : Index := Scalar.indexCast v71
  ![v74.toNat]

def k0_chk4 (v75 : IVec S16 32) : Prop :=
  (∀ a x, ((![v75] : Fin 1 → IVec S16 32) a x).toNat < S100000.size a)
theorem k0_idx4_inb : ∀ (v75 : IVec S16 32) (k0_hw4 : k0_chk4 v75), ∀ a x, ((![v75] : Fin 1 → IVec S16 32) a x).toNat < S100000.size a := fun v75 k0_hw4 => k0_hw4
def k0_off10 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_38 : BitVec 32 := 128#32
  let v72 : BitVec 32 := Scalar.muli arg11 c128_i32_38
  let c48_i32_39 : BitVec 32 := 48#32
  let v73 : BitVec 32 := Scalar.addi v72 c48_i32_39
  let v77 : Index := Scalar.indexCast v73
  ![v77.toNat]
def k0_off11 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_40 : BitVec 32 := 8192#32
  let v79 : BitVec 32 := Scalar.muli arg10 c8192_i32_40
  let c0_i32_20 : BitVec 32 := 0#32
  let c1_i32_21 : BitVec 32 := 1#32
  let arg11 : BitVec 32 := Scf.iv c0_i32_20 c1_i32_21 k0_t3
  let c128_i32_41 : BitVec 32 := 128#32
  let v80 : BitVec 32 := Scalar.muli arg11 c128_i32_41
  let v81 : BitVec 32 := Scalar.addi v79 v80
  let c64_i32_42 : BitVec 32 := 64#32
  let v82 : BitVec 32 := Scalar.addi v81 c64_i32_42
  let v85 : Index := Scalar.indexCast v82
  ![v85.toNat]

def k0_chk5 (v86 : IVec S16 32) : Prop :=
  (∀ a x, ((![v86] : Fin 1 → IVec S16 32) a x).toNat < S100000.size a)
theorem k0_idx5_inb : ∀ (v86 : IVec S16 32) (k0_hw5 : k0_chk5 v86), ∀ a x, ((![v86] : Fin 1 → IVec S16 32) a x).toNat < S100000.size a := fun v86 k0_hw5 => k0_hw5
def k0_off12 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_43 : BitVec 32 := 128#32
  let v83 : BitVec 32 := Scalar.muli arg11 c128_i32_43
  let c64_i32_44 : BitVec 32 := 64#32
  let v84 : BitVec 32 := Scalar.addi v83 c64_i32_44
  let v88 : Index := Scalar.indexCast v84
  ![v88.toNat]
def k0_off13 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_45 : BitVec 32 := 8192#32
  let v90 : BitVec 32 := Scalar.muli arg10 c8192_i32_45
  let c0_i32_20 : BitVec 32 := 0#32
  let c1_i32_21 : BitVec 32 := 1#32
  let arg11 : BitVec 32 := Scf.iv c0_i32_20 c1_i32_21 k0_t3
  let c128_i32_46 : BitVec 32 := 128#32
  let v91 : BitVec 32 := Scalar.muli arg11 c128_i32_46
  let v92 : BitVec 32 := Scalar.addi v90 v91
  let c80_i32 : BitVec 32 := 80#32
  let v93 : BitVec 32 := Scalar.addi v92 c80_i32
  let v96 : Index := Scalar.indexCast v93
  ![v96.toNat]

def k0_chk6 (v97 : IVec S16 32) : Prop :=
  (∀ a x, ((![v97] : Fin 1 → IVec S16 32) a x).toNat < S100000.size a)
theorem k0_idx6_inb : ∀ (v97 : IVec S16 32) (k0_hw6 : k0_chk6 v97), ∀ a x, ((![v97] : Fin 1 → IVec S16 32) a x).toNat < S100000.size a := fun v97 k0_hw6 => k0_hw6
def k0_off14 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_47 : BitVec 32 := 128#32
  let v94 : BitVec 32 := Scalar.muli arg11 c128_i32_47
  let c80_i32_48 : BitVec 32 := 80#32
  let v95 : BitVec 32 := Scalar.addi v94 c80_i32_48
  let v99 : Index := Scalar.indexCast v95
  ![v99.toNat]
def k0_off15 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_49 : BitVec 32 := 8192#32
  let v101 : BitVec 32 := Scalar.muli arg10 c8192_i32_49
  let c0_i32_20 : BitVec 32 := 0#32
  let c1_i32_21 : BitVec 32 := 1#32
  let arg11 : BitVec 32 := Scf.iv c0_i32_20 c1_i32_21 k0_t3
  let c128_i32_50 : BitVec 32 := 128#32
  let v102 : BitVec 32 := Scalar.muli arg11 c128_i32_50
  let v103 : BitVec 32 := Scalar.addi v101 v102
  let c96_i32 : BitVec 32 := 96#32
  let v104 : BitVec 32 := Scalar.addi v103 c96_i32
  let v107 : Index := Scalar.indexCast v104
  ![v107.toNat]

def k0_chk7 (v108 : IVec S16 32) : Prop :=
  (∀ a x, ((![v108] : Fin 1 → IVec S16 32) a x).toNat < S100000.size a)
theorem k0_idx7_inb : ∀ (v108 : IVec S16 32) (k0_hw7 : k0_chk7 v108), ∀ a x, ((![v108] : Fin 1 → IVec S16 32) a x).toNat < S100000.size a := fun v108 k0_hw7 => k0_hw7
def k0_off16 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_51 : BitVec 32 := 128#32
  let v105 : BitVec 32 := Scalar.muli arg11 c128_i32_51
  let c96_i32_52 : BitVec 32 := 96#32
  let v106 : BitVec 32 := Scalar.addi v105 c96_i32_52
  let v110 : Index := Scalar.indexCast v106
  ![v110.toNat]
def k0_off17 (k0_t2 : Fin k0_t2_loop.trips) (k0_t3 : Fin k0_t3_loop.trips) : Fin 1 → Nat :=
  let c0_i32_15 : BitVec 32 := 0#32
  let c1_i32_17 : BitVec 32 := 1#32
  let arg10 : BitVec 32 := Scf.iv c0_i32_15 c1_i32_17 k0_t2
  let c8192_i32_53 : BitVec 32 := 8192#32
  let v112 : BitVec 32 := Scalar.muli arg10 c8192_i32_53
  let c0_i32_20 : BitVec 32 := 0#32
  let c1_i32_21 : BitVec 32 := 1#32
  let arg11 : BitVec 32 := Scf.iv c0_i32_20 c1_i32_21 k0_t3
  let c128_i32_54 : BitVec 32 := 128#32
  let v113 : BitVec 32 := Scalar.muli arg11 c128_i32_54
  let v114 : BitVec 32 := Scalar.addi v112 v113
  let c112_i32 : BitVec 32 := 112#32
  let v115 : BitVec 32 := Scalar.addi v114 c112_i32
  let v118 : Index := Scalar.indexCast v115
  ![v118.toNat]

def k0_chk8 (v119 : IVec S16 32) : Prop :=
  (∀ a x, ((![v119] : Fin 1 → IVec S16 32) a x).toNat < S100000.size a)
theorem k0_idx8_inb : ∀ (v119 : IVec S16 32) (k0_hw8 : k0_chk8 v119), ∀ a x, ((![v119] : Fin 1 → IVec S16 32) a x).toNat < S100000.size a := fun v119 k0_hw8 => k0_hw8
def k0_off18 (k0_t3 : Fin k0_t3_loop.trips) : Fin 1 → Nat :=
  let c0_i32_20 : BitVec 32 := 0#32
  let c1_i32_21 : BitVec 32 := 1#32
  let arg11 : BitVec 32 := Scf.iv c0_i32_20 c1_i32_21 k0_t3
  let c128_i32_55 : BitVec 32 := 128#32
  let v116 : BitVec 32 := Scalar.muli arg11 c128_i32_55
  let c112_i32_56 : BitVec 32 := 112#32
  let v117 : BitVec 32 := Scalar.addi v116 c112_i32_56
  let v121 : Index := Scalar.indexCast v117
  ![v121.toNat]
def k0_off19 (i : grid0.Coords) (k0_t1 : Fin k0_t1_loop.trips) (k0_t2 : Fin k0_t2_loop.trips) : Fin 2 → Nat :=
  let c0_i32_0 : BitVec 32 := 0#32
  let c1_i32 : BitVec 32 := 1#32
  let arg9 : BitVec 32 := Scf.iv c0_i32_0 c1_i32 k0_t1
  let c32_i32 : BitVec 32 := 32#32
  let v3 : BitVec 32 := Scalar.muli arg9 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v3 v1
  let c0_i32_15 : BitVec 32 := 0#32
  let c1_i32_17 : BitVec 32 := 1#32
  let arg10 : BitVec 32 := Scf.iv c0_i32_15 c1_i32_17 k0_t2
  let c8192_i32 : BitVec 32 := 8192#32
  let v34 : BitVec 32 := Scalar.muli arg10 c8192_i32
  ![v4.toNat, v34.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x32 : Shape := ⟨3, ![26, 100000, 32]⟩
abbrev S1x100000x32 : Shape := ⟨3, ![1, 100000, 32]⟩
abbrev S100000x32 : Shape := ⟨2, ![100000, 32]⟩
abbrev S16384x1 : Shape := ⟨2, ![16384, 1]⟩
abbrev S16384 : Shape := ⟨1, ![16384]⟩
abbrev S_ : Shape := ⟨0, ![]⟩
abbrev S16384x32 : Shape := ⟨2, ![16384, 32]⟩
abbrev S16384x512 : Shape := ⟨2, ![16384, 512]⟩
abbrev S16384x320 : Shape := ⟨2, ![16384, 320]⟩
abbrev S16384x832 : Shape := ⟨2, ![16384, 832]⟩

abbrev nBuf : Space → Nat
  | .hbm => 343
  | .vmem => 0
  | .smem => 0
  | _ => 0

abbrev hbmTy0_0 (i : Nat) : BufTy := match i % 128 with
  | 0 => ⟨S16384x26, .i32⟩
  | 1 => ⟨S26x100000x32, .f32⟩
  | 2 => ⟨S1x100000x32, .f32⟩
  | 3 => ⟨S100000x32, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384x32, .f32⟩
  | 15 => ⟨S1x100000x32, .f32⟩
  | 16 => ⟨S100000x32, .f32⟩
  | 17 => ⟨S16384x1, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S16384x32, .f32⟩
  | 28 => ⟨S1x100000x32, .f32⟩
  | 29 => ⟨S100000x32, .f32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384x32, .f32⟩
  | 41 => ⟨S1x100000x32, .f32⟩
  | 42 => ⟨S100000x32, .f32⟩
  | 43 => ⟨S16384x1, .i32⟩
  | 44 => ⟨S16384, .i32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S16384x32, .f32⟩
  | 54 => ⟨S1x100000x32, .f32⟩
  | 55 => ⟨S100000x32, .f32⟩
  | 56 => ⟨S16384x1, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x32, .f32⟩
  | 67 => ⟨S1x100000x32, .f32⟩
  | 68 => ⟨S100000x32, .f32⟩
  | 69 => ⟨S16384x1, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x32, .f32⟩
  | 80 => ⟨S1x100000x32, .f32⟩
  | 81 => ⟨S100000x32, .f32⟩
  | 82 => ⟨S16384x1, .i32⟩
  | 83 => ⟨S16384, .i32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x32, .f32⟩
  | 93 => ⟨S1x100000x32, .f32⟩
  | 94 => ⟨S100000x32, .f32⟩
  | 95 => ⟨S16384x1, .i32⟩
  | 96 => ⟨S16384, .i32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x32, .f32⟩
  | 106 => ⟨S1x100000x32, .f32⟩
  | 107 => ⟨S100000x32, .f32⟩
  | 108 => ⟨S16384x1, .i32⟩
  | 109 => ⟨S16384, .i32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384x32, .f32⟩
  | 119 => ⟨S1x100000x32, .f32⟩
  | 120 => ⟨S100000x32, .f32⟩
  | 121 => ⟨S16384x1, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S16384x26, .i32⟩

abbrev hbmTy0_1 (i : Nat) : BufTy := match i % 128 with
  | 0 => ⟨S16384, .i32⟩
  | 1 => ⟨S16384, .i32⟩
  | 2 => ⟨S16384x1, .i32⟩
  | 3 => ⟨S16384x32, .f32⟩
  | 4 => ⟨S1x100000x32, .f32⟩
  | 5 => ⟨S100000x32, .f32⟩
  | 6 => ⟨S16384x1, .i32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x32, .f32⟩
  | 17 => ⟨S1x100000x32, .f32⟩
  | 18 => ⟨S100000x32, .f32⟩
  | 19 => ⟨S16384x1, .i32⟩
  | 20 => ⟨S16384, .i32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S16384x32, .f32⟩
  | 30 => ⟨S1x100000x32, .f32⟩
  | 31 => ⟨S100000x32, .f32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384x32, .f32⟩
  | 43 => ⟨S1x100000x32, .f32⟩
  | 44 => ⟨S100000x32, .f32⟩
  | 45 => ⟨S16384x1, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S16384x32, .f32⟩
  | 56 => ⟨S1x100000x32, .f32⟩
  | 57 => ⟨S100000x32, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384x32, .f32⟩
  | 69 => ⟨S1x100000x32, .f32⟩
  | 70 => ⟨S100000x32, .f32⟩
  | 71 => ⟨S16384x1, .i32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S16384x32, .f32⟩
  | 82 => ⟨S1x100000x32, .f32⟩
  | 83 => ⟨S100000x32, .f32⟩
  | 84 => ⟨S16384x1, .i32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S16384x32, .f32⟩
  | 95 => ⟨S1x100000x32, .f32⟩
  | 96 => ⟨S100000x32, .f32⟩
  | 97 => ⟨S16384x1, .i32⟩
  | 98 => ⟨S16384, .i32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S16384x32, .f32⟩
  | 108 => ⟨S1x100000x32, .f32⟩
  | 109 => ⟨S100000x32, .f32⟩
  | 110 => ⟨S16384x1, .i32⟩
  | 111 => ⟨S16384, .i32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x32, .f32⟩
  | 121 => ⟨S1x100000x32, .f32⟩
  | 122 => ⟨S100000x32, .f32⟩
  | 123 => ⟨S16384x1, .i32⟩
  | 124 => ⟨S16384, .i32⟩
  | 125 => ⟨S_, .i32⟩
  | 126 => ⟨S16384, .i32⟩
  | 127 => ⟨S16384, .i1⟩
  | _ => ⟨S16384x26, .i32⟩

abbrev hbmTy0_2 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x32, .f32⟩
  | 6 => ⟨S1x100000x32, .f32⟩
  | 7 => ⟨S100000x32, .f32⟩
  | 8 => ⟨S16384x1, .i32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384x32, .f32⟩
  | 19 => ⟨S1x100000x32, .f32⟩
  | 20 => ⟨S100000x32, .f32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384x32, .f32⟩
  | 32 => ⟨S1x100000x32, .f32⟩
  | 33 => ⟨S100000x32, .f32⟩
  | 34 => ⟨S16384x1, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x32, .f32⟩
  | 45 => ⟨S1x100000x32, .f32⟩
  | 46 => ⟨S100000x32, .f32⟩
  | 47 => ⟨S16384x1, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x32, .f32⟩
  | 58 => ⟨S1x100000x32, .f32⟩
  | 59 => ⟨S100000x32, .f32⟩
  | 60 => ⟨S16384x1, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x32, .f32⟩
  | 71 => ⟨S1x100000x32, .f32⟩
  | 72 => ⟨S100000x32, .f32⟩
  | 73 => ⟨S16384x1, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S16384x32, .f32⟩
  | 84 => ⟨S16384x512, .f32⟩
  | 85 => ⟨S16384x320, .f32⟩
  | 86 => ⟨S16384x832, .f32⟩
  | _ => ⟨S16384x26, .i32⟩

abbrev hbmTy (i : Nat) : BufTy := match i / 128 with
  | 0 => hbmTy0_0 i
  | 1 => hbmTy0_1 i
  | 2 => hbmTy0_2 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_c_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_7 : Ref sig .tc := ⟨.hbm, 58, rfl⟩
abbrev main_v48 : Ref sig .tc := ⟨.hbm, 59, rfl⟩
abbrev main_v49 : Ref sig .tc := ⟨.hbm, 60, rfl⟩
abbrev main_c_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_9 : Ref sig .tc := ⟨.hbm, 71, rfl⟩
abbrev main_v59 : Ref sig .tc := ⟨.hbm, 72, rfl⟩
abbrev main_v60 : Ref sig .tc := ⟨.hbm, 73, rfl⟩
abbrev main_c_10 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_c_11 : Ref sig .tc := ⟨.hbm, 84, rfl⟩
abbrev main_v70 : Ref sig .tc := ⟨.hbm, 85, rfl⟩
abbrev main_v71 : Ref sig .tc := ⟨.hbm, 86, rfl⟩
abbrev main_c_12 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_13 : Ref sig .tc := ⟨.hbm, 97, rfl⟩
abbrev main_v81 : Ref sig .tc := ⟨.hbm, 98, rfl⟩
abbrev main_v82 : Ref sig .tc := ⟨.hbm, 99, rfl⟩
abbrev main_c_14 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_15 : Ref sig .tc := ⟨.hbm, 110, rfl⟩
abbrev main_v92 : Ref sig .tc := ⟨.hbm, 111, rfl⟩
abbrev main_v93 : Ref sig .tc := ⟨.hbm, 112, rfl⟩
abbrev main_c_16 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_17 : Ref sig .tc := ⟨.hbm, 123, rfl⟩
abbrev main_v103 : Ref sig .tc := ⟨.hbm, 124, rfl⟩
abbrev main_v104 : Ref sig .tc := ⟨.hbm, 125, rfl⟩
abbrev main_c_18 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_c_19 : Ref sig .tc := ⟨.hbm, 136, rfl⟩
abbrev main_v114 : Ref sig .tc := ⟨.hbm, 137, rfl⟩
abbrev main_v115 : Ref sig .tc := ⟨.hbm, 138, rfl⟩
abbrev main_c_20 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_c_21 : Ref sig .tc := ⟨.hbm, 149, rfl⟩
abbrev main_v125 : Ref sig .tc := ⟨.hbm, 150, rfl⟩
abbrev main_v126 : Ref sig .tc := ⟨.hbm, 151, rfl⟩
abbrev main_c_22 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c_23 : Ref sig .tc := ⟨.hbm, 162, rfl⟩
abbrev main_v136 : Ref sig .tc := ⟨.hbm, 163, rfl⟩
abbrev main_v137 : Ref sig .tc := ⟨.hbm, 164, rfl⟩
abbrev main_c_24 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_c_25 : Ref sig .tc := ⟨.hbm, 175, rfl⟩
abbrev main_v147 : Ref sig .tc := ⟨.hbm, 176, rfl⟩
abbrev main_v148 : Ref sig .tc := ⟨.hbm, 177, rfl⟩
abbrev main_c_26 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_c_27 : Ref sig .tc := ⟨.hbm, 188, rfl⟩
abbrev main_v158 : Ref sig .tc := ⟨.hbm, 189, rfl⟩
abbrev main_v159 : Ref sig .tc := ⟨.hbm, 190, rfl⟩
abbrev main_c_28 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_29 : Ref sig .tc := ⟨.hbm, 201, rfl⟩
abbrev main_v169 : Ref sig .tc := ⟨.hbm, 202, rfl⟩
abbrev main_v170 : Ref sig .tc := ⟨.hbm, 203, rfl⟩
abbrev main_c_30 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_c_31 : Ref sig .tc := ⟨.hbm, 214, rfl⟩
abbrev main_v180 : Ref sig .tc := ⟨.hbm, 215, rfl⟩
abbrev main_v181 : Ref sig .tc := ⟨.hbm, 216, rfl⟩
abbrev main_c_32 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_c_33 : Ref sig .tc := ⟨.hbm, 227, rfl⟩
abbrev main_v191 : Ref sig .tc := ⟨.hbm, 228, rfl⟩
abbrev main_v192 : Ref sig .tc := ⟨.hbm, 229, rfl⟩
abbrev main_c_34 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_c_35 : Ref sig .tc := ⟨.hbm, 240, rfl⟩
abbrev main_v202 : Ref sig .tc := ⟨.hbm, 241, rfl⟩
abbrev main_v203 : Ref sig .tc := ⟨.hbm, 242, rfl⟩
abbrev main_c_36 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_c_37 : Ref sig .tc := ⟨.hbm, 253, rfl⟩
abbrev main_v213 : Ref sig .tc := ⟨.hbm, 254, rfl⟩
abbrev main_v214 : Ref sig .tc := ⟨.hbm, 255, rfl⟩
abbrev main_c_38 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_c_39 : Ref sig .tc := ⟨.hbm, 266, rfl⟩
abbrev main_v224 : Ref sig .tc := ⟨.hbm, 267, rfl⟩
abbrev main_v225 : Ref sig .tc := ⟨.hbm, 268, rfl⟩
abbrev main_c_40 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_c_41 : Ref sig .tc := ⟨.hbm, 279, rfl⟩
abbrev main_v235 : Ref sig .tc := ⟨.hbm, 280, rfl⟩
abbrev main_v236 : Ref sig .tc := ⟨.hbm, 281, rfl⟩
abbrev main_c_42 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_c_43 : Ref sig .tc := ⟨.hbm, 292, rfl⟩
abbrev main_v246 : Ref sig .tc := ⟨.hbm, 293, rfl⟩
abbrev main_v247 : Ref sig .tc := ⟨.hbm, 294, rfl⟩
abbrev main_c_44 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_c_45 : Ref sig .tc := ⟨.hbm, 305, rfl⟩
abbrev main_v257 : Ref sig .tc := ⟨.hbm, 306, rfl⟩
abbrev main_v258 : Ref sig .tc := ⟨.hbm, 307, rfl⟩
abbrev main_c_46 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_c_47 : Ref sig .tc := ⟨.hbm, 318, rfl⟩
abbrev main_v268 : Ref sig .tc := ⟨.hbm, 319, rfl⟩
abbrev main_v269 : Ref sig .tc := ⟨.hbm, 320, rfl⟩
abbrev main_c_48 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_c_49 : Ref sig .tc := ⟨.hbm, 331, rfl⟩
abbrev main_v279 : Ref sig .tc := ⟨.hbm, 332, rfl⟩
abbrev main_v280 : Ref sig .tc := ⟨.hbm, 333, rfl⟩
abbrev main_c_50 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩

abbrev nD : Nat := 1
abbrev τ : Topo := Topo.v7x

variable {F : FTy → Type} [FloatOps F]
-- ==== Proof.Setup.lean ====
/-
  The embedding-columns kernel as the SparseCore launch theorem sees it: the launch configuration, the ghost state, the
  buffers by name, and what the kernel is to compute.

  The kernel runs on 2 SparseCores with 16 vector subcores each. It takes the indices transposed (`xt`, 26 × 16384), the
  tables transposed (`tt`, 26 × 32 × 100000), and fills an array of 832 columns of 16384 elements: column `32 f + d` holds
  at position `b` the element `tt[f, d, xt[f, b]]` (`column`). Subcore `(c, s)` fills the columns `32 t + 2 s + c`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The launch -/

/-- The labels of the program's functions, with no pipelined TensorCore kernel among them. -/
abbrev ΛP : Labels := Pipeline.Sig Λ₀ (Fin 0) fun p => (pcfgs (F := F) p).Adm

/-- The program's one SparseCore launch. -/
abbrev K : SparseCore.Cfg τ sig (ΛP (F := F)) 1 := sc (F := F)

/-- The table of function bodies. -/
abbrev D [FloatOps F] : Defs nD τ sig (Elt F) (ΛP (F := F)) := Pipeline.defs pcfgs defs₀

/-- No function is recursive: the trivial measures. -/
abbrev 𝒱₀ : Variants := Variants.none
abbrev 𝒱 : Variants := 𝒱₀.lift
abbrev v₀ : 𝒱.V := Sum.inl none

/-- What the launch theorem asks of the launch's semaphores and buffers: two of the handshakes' semaphores differ, and
    none of them is scoped. -/
theorem launch_facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes, and the counters of the transfers -/

abbrev UH : Type := URounds (GSem nD τ sig) ℕ
abbrev UU : Type := UH × Counters

/-- Where the handshakes' ghost state lies. -/
abbrev EH : Emb UH (MT nD τ sig (HIx 1) (Elt F) ℕ UU ℕ) := embL

/-! ## The buffers -/

/-- A device's arrays, as locations: the arguments, their transposes, the columns, the result. -/
abbrev xLoc (d : Dev nD) : Loc nD τ sig := (SparseCore.T d).loc main_arg0
abbrev tabLoc (d : Dev nD) : Loc nD τ sig := (SparseCore.T d).loc main_arg1
abbrev xtLoc (d : Dev nD) : Loc nD τ sig := (SparseCore.T d).loc main_v0
abbrev ttLoc (d : Dev nD) : Loc nD τ sig := (SparseCore.T d).loc main_v1
abbrev colLoc (d : Dev nD) : Loc nD τ sig := (SparseCore.T d).loc main_v2
abbrev resLoc (d : Dev nD) : Loc nD τ sig := (SparseCore.T d).loc main_v3

/-- The arrays as a vector subcore's program names them, -/
abbrev xtV : Memref sig .scVector .hbm S26x16384 .i32 := Memref.whole main_v0_scv
abbrev ttV : Memref sig .scVector .hbm S26x32x100000 .f32 := Memref.whole main_v1_scv
abbrev colV : Memref sig .scVector .hbm S832x16384 .f32 := Memref.whole main_v2_scv
/-- and its scratch: a row of one table, a row of indices, half a column. -/
abbrev sT : Memref sig .scVector .vmem S100000 .f32 := Memref.whole cc0_scratch0
abbrev sX : Memref sig .scVector .vmem S16384 .i32 := Memref.whole cc0_scratch1
abbrev sC : Memref sig .scVector .vmem S8192 .f32 := Memref.whole cc0_scratch2

/-- The SparseCore and the subcore that run at the coordinates `L`. -/
abbrev cV (L : grid0.Coords) : Fin τ.nSC := (L 0).castLE hcore0
abbrev jV (L : grid0.Coords) : Fin τ.nSub := (L 1).castLE hsub0
/-- The thread that runs at `L`. -/
abbrev thr (d : Dev nD) (L : grid0.Coords) : Thread nD τ := V d (cV L) (jV L)

theorem L0_lt (L : grid0.Coords) : (L 0).val < 2 := (L 0).isLt
theorem L1_lt (L : grid0.Coords) : (L 1).val < 16 := (L 1).isLt

/-! ## What the kernel computes -/

variable {α : Type}

/-- The index `(f, d, v)` of the transposed tables. -/
def tix (f : Fin 26) (d : Fin 32) (v : Fin 100000) : S26x32x100000.Idx :=
  Fin.cons f (Fin.cons d (Fin.cons v finZeroElim))

/-- The index `(f, b)` of the transposed indices. -/
def xix (f : Fin 26) (b : Fin 16384) : S26x16384.Idx := Fin.cons f (Fin.cons b finZeroElim)

/-- The index `(r, b)` of the array of columns. -/
def cix (r : Fin 832) (b : Fin 16384) : S832x16384.Idx := Fin.cons r (Fin.cons b finZeroElim)

/-- Row `d` of table `f`, as the subcore fetches it. -/
def rowT (tt : S26x32x100000.Idx → α) (f : Fin 26) (d : Fin 32) : S100000.Idx → α := fun j => tt (tix f d (j 0))

/-- Row `f` of the indices, as the subcore fetches it. -/
def rowX (xt : S26x16384.Idx → BitVec 32) (f : Fin 26) : S16384.Idx → BitVec 32 := fun j => xt (xix f (j 0))

/-- The element of a row of 100000 that the word `v` names (of a word that names none, the element of its remainder). -/
def look (row : S100000.Idx → α) (v : BitVec 32) : α :=
  row (Fin.cons ⟨v.toNat % 100000, Nat.mod_lt _ (by decide)⟩ finZeroElim)

/-- What the kernel leaves: column `32 f + d` holds at `b` the element of row `d` of table `f` that index `(f, b)` names. -/
def column (xt : S26x16384.Idx → BitVec 32) (tt : S26x32x100000.Idx → α) : S832x16384.Idx → α := fun i =>
  look (rowT tt ⟨(i 0).val / 32, Nat.div_lt_of_lt_mul (i 0).isLt⟩ ⟨(i 0).val % 32, Nat.mod_lt _ (by decide)⟩)
    (xt (xix ⟨(i 0).val / 32, Nat.div_lt_of_lt_mul (i 0).isLt⟩ (i 1)))

/-- Position `n` of a row of indices. -/
def xpos (n : Nat) : S16384.Idx := Fin.cons ⟨n % 16384, Nat.mod_lt _ (by decide)⟩ finZeroElim

/-- The first `n` elements of the half-column scratch are those of half `h`: element `j` is the one of the fetched row
    `t` that the fetched index `8192 h + j` names. -/
def Filled (x : S16384.Idx → BitVec 32) (t : S100000.Idx → α) (h n : Nat) (s : S8192.Idx → α) : Prop :=
  ∀ j : S8192.Idx, (j 0).val < n → s j = look t (x (xpos (8192 * h + (j 0).val)))

end Cert.Proof.Columns

end
-- ==== Proof.Slices.lean ====
/-
  The parts of the arrays that the embedding-columns kernel's copies move: what a fetched row holds, and which elements of
  the array of columns a half column fills.
-/
module

public import proofs.«01_k».proof.Proof.Setup
public import Idealize.ShloMosaic.Lib.Writes

@[expose] public section

noncomputable section

namespace Cert.Proof.Columns

open Cert.KernelIdeal Cert.KernelIdeal.Gen
open Idealize.ShloMosaic

/-- Row `d` of table `f`, for the column `32 t1 + d` of trip `t1`, as the subcore at `L` names it. -/
abbrev rowTV (L : grid0.Coords) (t1 : Fin k0_t1_loop.trips) : Memref sig .scVector .hbm S100000 .f32 :=
  (ttV.slice (Rect.unit (s := S26x32x100000) (k0_off1 L t1) S1x1x100000.size (k0_off1_inb L t1)) (fun _ => rfl)).squeeze S100000 squeezes_S1x1x100000_S100000

/-- Row `t1` of the indices, as the subcore at `L` names it. -/
abbrev rowXV (L : grid0.Coords) (t1 : Fin k0_t1_loop.trips) : Memref sig .scVector .hbm S16384 .i32 :=
  (xtV.slice (Rect.unit (s := S26x16384) (k0_off2 L t1) S1x16384.size (k0_off2_inb L t1)) (fun _ => rfl)).squeeze S16384 squeezes_S1x16384_S16384

/-- Half `t2` of the column the subcore at `L` fills in trip `t1`. -/
abbrev halfV (L : grid0.Coords) (t1 : Fin k0_t1_loop.trips) (t2 : Fin k0_t2_loop.trips) : Memref sig .scVector .hbm S8192 .f32 :=
  (colV.slice (Rect.unit (s := S832x16384) (k0_off19 L t1 t2) S1x8192.size (k0_off19_inb L t1 t2)) (fun _ => rfl)).squeeze S8192 squeezes_S1x8192_S8192

/-- The first row-coordinate of a slice of a table, in closed form: the table of trip `t1`, and the row of the subcore. -/
theorem off1_eq : ∀ (L : grid0.Coords) (t1 : Fin k0_t1_loop.trips), k0_off1 L t1 = ![t1.val, 2 * (L 1).val + (L 0).val, 0] := by decide +kernel
theorem off2_eq : ∀ (L : grid0.Coords) (t1 : Fin k0_t1_loop.trips), k0_off2 L t1 = ![t1.val, 0] := by decide +kernel

theorem t1_lt (t1 : Fin k0_t1_loop.trips) : t1.val < 26 := lt_of_lt_of_le t1.isLt k0_t1_abs.2.1
theorem t2_lt (t2 : Fin k0_t2_loop.trips) : t2.val < 2 := lt_of_lt_of_le t2.isLt k0_t2_abs.2.1

/-- The table of trip `t1`, and the row of the tables that the subcore at `L` takes. -/
def tab (t1 : Fin k0_t1_loop.trips) : Fin 26 := ⟨t1.val, t1_lt t1⟩
def lane (L : grid0.Coords) : Fin 32 := ⟨2 * (L 1).val + (L 0).val, by have := L0_lt L; have := L1_lt L; omega⟩

/-- The elements of the array of columns that the subcore at `L` owns: every 32nd column. -/
def own (L : grid0.Coords) : Finset S832x16384.Idx :=
  Finset.univ.filter fun i => (i 0).val % 32 = 2 * (L 1).val + (L 0).val

theorem mem_own {L : grid0.Coords} {i : S832x16384.Idx} : i ∈ own L ↔ (i 0).val % 32 = 2 * (L 1).val + (L 0).val := by
  simp [own]

/-- Where element `j` of a half column lies in the array of columns: in the row of trip `t1`, behind the halves before. -/
theorem emb_half (L : grid0.Coords) (t1 : Fin k0_t1_loop.trips) (t2 : Fin k0_t2_loop.trips) (j : S8192.Idx) :
    (((halfV L t1 t2).view.emb j : S832x16384.Idx) 0).val = 32 * t1.val + 2 * (L 1).val + (L 0).val
      ∧ (((halfV L t1 t2).view.emb j : S832x16384.Idx) 1).val = 8192 * t2.val + (j 0).val := by
  have e : Shape.reshapeEquiv squeezes_S1x8192_S8192.numel_eq j = Fin.cons ⟨0, Nat.one_pos⟩ j :=
    Shape.reshapeEquiv_cons_one (n := 1) (d := ![8192]) _ j
  have h0 : k0_off19 L t1 t2 0 = _ := congrFun (k0_off19_eq L t1 t2) 0
  have h1 : k0_off19 L t1 t2 1 = _ := congrFun (k0_off19_eq L t1 t2) 1
  constructor
  · show k0_off19 L t1 t2 0 + 1 * (Shape.reshapeEquiv squeezes_S1x8192_S8192.numel_eq j 0).val = _
    rw [e, h0]
    show 32 * t1.val + 2 * (L 1).val + (L 0).val + 1 * 0 = _
    omega
  · show k0_off19 L t1 t2 1 + 1 * (Shape.reshapeEquiv squeezes_S1x8192_S8192.numel_eq j 1).val = _
    rw [e, h1]
    show 8192 * t2.val + 1 * (j 0).val = _
    omega

/-- The element of a half column that lies at `i`. -/
def inHalf (i : S832x16384.Idx) : S8192.Idx := Fin.cons ⟨(i 1).val % 8192, Nat.mod_lt _ (by decide)⟩ finZeroElim

theorem emb_inHalf {L : grid0.Coords} {t1 : Fin k0_t1_loop.trips} {t2 : Fin k0_t2_loop.trips} {i : S832x16384.Idx}
    (h : (i 0).val = 32 * t1.val + 2 * (L 1).val + (L 0).val) (h' : (i 1).val / 8192 = t2.val) :
    ((halfV L t1 t2).view.emb (inHalf i) : S832x16384.Idx) = i := by
  have e := emb_half L t1 t2 (inHalf i)
  have ej : (inHalf i 0).val = (i 1).val % 8192 := rfl
  funext a
  apply Fin.ext
  match a with
  | ⟨0, _⟩ => exact e.1.trans h.symm
  | ⟨1, _⟩ => refine e.2.trans ?_; show _ = (i 1).val; omega

/-- The elements of a half column: one row, 8192 positions. -/
theorem mem_half {L : grid0.Coords} {t1 : Fin k0_t1_loop.trips} {t2 : Fin k0_t2_loop.trips} {i : S832x16384.Idx} :
    i ∈ (halfV L t1 t2).view.set ↔ (i 0).val = 32 * t1.val + 2 * (L 1).val + (L 0).val ∧ (i 1).val / 8192 = t2.val := by
  constructor
  · intro hi
    obtain ⟨j, -, rfl⟩ := Finset.mem_map.mp hi
    have e := emb_half L t1 t2 j
    have hj : (j 0).val < 8192 := (j 0).isLt
    exact ⟨e.1, by rw [e.2]; omega⟩
  · rintro ⟨h, h'⟩
    rw [← emb_inHalf h h']
    exact View.emb_mem_set _ _

theorem piece_subset (L : grid0.Coords) (t1 : Fin k0_t1_loop.trips) (t2 : Fin k0_t2_loop.trips) : (halfV L t1 t2).view.set ⊆ own L := by
  intro i hi
  rw [mem_half] at hi
  rw [mem_own]
  have := L0_lt L; have := L1_lt L
  omega

variable {α : Type}

/-- The first `n` halves of the columns a subcore fills hold the values of `G`. -/
def Done (L : grid0.Coords) (n : Nat) (G f : S832x16384.Idx → α) : Prop :=
  ∀ i ∈ own L, 2 * ((i 0).val / 32) + (i 1).val / 8192 < n → f i = G i

variable {F : FTy → Type}

/-- What the array of columns holds once a half column `w` is copied into it: `w` in that half, the rest as before. -/
theorem writes_half (L : grid0.Coords) (t1 : Fin k0_t1_loop.trips) (t2 : Fin k0_t2_loop.trips) (f : S832x16384.Idx → Elt F .f32)
    (w : S8192.Idx → Elt F .f32) :
    (∀ i : S832x16384.Idx, i ∉ (halfV L t1 t2).view.set → ((halfV L t1 t2).view.writes (Elt F) f [⟨Rect.whole S8192, w⟩] : S832x16384.Idx → Elt F .f32) i = f i)
      ∧ ∀ i : S832x16384.Idx, i ∈ (halfV L t1 t2).view.set →
          ((halfV L t1 t2).view.writes (Elt F) f [⟨Rect.whole S8192, w⟩] : S832x16384.Idx → Elt F .f32) i = w (inHalf i) := by
  refine ⟨fun i hi => ?_, fun i hi => ?_⟩
  · rw [View.writes_singleton]
    refine View.write_of_not_mem _ _ _ (fun hm => hi ?_)
    rw [View.setOn_univ, View.set_slice, Rect.set_whole] at hm
    exact hm
  · obtain ⟨h, h'⟩ := mem_half.mp hi
    have e := View.read_writes_cons_hit (halfV L t1 t2).view f (Rect.whole S8192) w [] (inHalf i) (inHalf i)
      ((Rect.whole S8192).emb_eq_of_coords _ _ fun a => by show _ = 0 + 1 * _; omega)
    have ei : ((halfV L t1 t2).view.emb (inHalf i) : S832x16384.Idx) = i := emb_inHalf h h'
    generalize ((halfV L t1 t2).view.writes (Elt F) f [⟨Rect.whole S8192, w⟩] : S832x16384.Idx → Elt F .f32) = g at e ⊢
    have e' : g ((halfV L t1 t2).view.emb (inHalf i)) = w (inHalf i) := e
    rw [← e']
    exact congrArg g ei.symm

/-- The half column in scratch, once filled, is a half of a column: copied into the array of columns it brings one more
    half in place. -/
theorem done_step {L : grid0.Coords} {t1 : Fin k0_t1_loop.trips} {t2 : Fin k0_t2_loop.trips} {xt : S26x16384.Idx → BitVec 32}
    {tt : S26x32x100000.Idx → Elt F .f32} {f : S832x16384.Idx → Elt F .f32} {w : S8192.Idx → Elt F .f32}
    (hf : Done L (2 * t1.val + t2.val) (column xt tt) f)
    (hw : Filled (rowX xt (tab t1)) (rowT tt (tab t1) (lane L))
      t2.val 8192 w) :
    Done L (2 * t1.val + (t2.val + 1)) (column xt tt)
      ((halfV L t1 t2).view.writes (Elt F) f [⟨Rect.whole S8192, w⟩] : S832x16384.Idx → Elt F .f32) := by
  intro i hi hn
  have h0 := L0_lt L
  have h1 := L1_lt L
  have h2 := t2_lt t2
  have hi1 : (i 1).val < 16384 := (i 1).isLt
  by_cases hm : i ∈ (halfV L t1 t2).view.set
  · rw [(writes_half L t1 t2 f w).2 i hm]
    obtain ⟨hr, hc⟩ := mem_half.mp hm
    have e1 : (⟨(i 0).val / 32, Nat.div_lt_of_lt_mul (i 0).isLt⟩ : Fin 26) = tab t1 := Fin.ext (by show (i 0).val / 32 = t1.val; omega)
    have e2 : (⟨(i 0).val % 32, Nat.mod_lt _ (by decide)⟩ : Fin 32) = lane L :=
      Fin.ext (by show (i 0).val % 32 = 2 * (L 1).val + (L 0).val; omega)
    have e3 : xpos (8192 * t2.val + (inHalf i 0).val) 0 = i 1 := Fin.ext (by
      show (8192 * t2.val + (i 1).val % 8192) % 16384 = (i 1).val; omega)
    rw [hw _ (inHalf i 0).isLt]
    show _ = look (rowT tt _ _) (xt (xix _ (i 1)))
    rw [e1, e2]
    show look _ (xt (xix _ (xpos (8192 * t2.val + (inHalf i 0).val) 0))) = _
    rw [e3]
  · rw [(writes_half L t1 t2 f w).1 i hm]
    refine hf i hi ?_
    by_contra hlt
    apply hm
    rw [mem_own] at hi
    rw [mem_half]
    omega

/-- The fetched row of a table is the row of trip `t1` that the subcore's columns take. -/
theorem read_rowT (L : grid0.Coords) (t1 : Fin k0_t1_loop.trips) (tt : S26x32x100000.Idx → Elt F .f32) :
    ((rowTV L t1).view.read (Elt F) tt : S100000.Idx → Elt F .f32)
      = rowT tt (tab t1) (lane L) := by
  funext j
  have e : Shape.reshapeEquiv squeezes_S1x1x100000_S100000.numel_eq j = Fin.cons ⟨0, Nat.one_pos⟩ (Fin.cons ⟨0, Nat.one_pos⟩ j) := by
    rw [← Shape.reshapeEquiv_reshapeEquiv (s' := ⟨2, ![1, 100000]⟩) (by decide +kernel) (by decide +kernel),
      Shape.reshapeEquiv_cons_one (n := 1) (d := ![100000])]
    exact Shape.reshapeEquiv_cons_one (n := 2) (d := ![1, 100000]) _ _
  show tt _ = tt _
  congr 1
  funext a
  apply Fin.ext
  have h0 : k0_off1 L t1 0 = _ := congrFun (off1_eq L t1) 0
  have h1 : k0_off1 L t1 1 = _ := congrFun (off1_eq L t1) 1
  have h2 : k0_off1 L t1 2 = _ := congrFun (off1_eq L t1) 2
  match a with
  | ⟨0, _⟩ =>
    show k0_off1 L t1 0 + 1 * (Shape.reshapeEquiv squeezes_S1x1x100000_S100000.numel_eq j 0).val = t1.val
    rw [e, h0]; show t1.val + 1 * 0 = _; omega
  | ⟨1, _⟩ =>
    show k0_off1 L t1 1 + 1 * (Shape.reshapeEquiv squeezes_S1x1x100000_S100000.numel_eq j 1).val = 2 * (L 1).val + (L 0).val
    rw [e, h1]; show 2 * (L 1).val + (L 0).val + 1 * 0 = _; omega
  | ⟨2, _⟩ =>
    show k0_off1 L t1 2 + 1 * (Shape.reshapeEquiv squeezes_S1x1x100000_S100000.numel_eq j 2).val = (j 0).val
    rw [e, h2]; show 0 + 1 * (j 0).val = _; omega

/-- The fetched row of indices is row `t1`. -/
theorem read_rowX (L : grid0.Coords) (t1 : Fin k0_t1_loop.trips) (xt : S26x16384.Idx → BitVec 32) :
    ((rowXV L t1).view.read (Elt F) xt : S16384.Idx → BitVec 32) = rowX xt (tab t1) := by
  funext j
  have e : Shape.reshapeEquiv squeezes_S1x16384_S16384.numel_eq j = Fin.cons ⟨0, Nat.one_pos⟩ j :=
    Shape.reshapeEquiv_cons_one (n := 1) (d := ![16384]) _ j
  show xt _ = xt _
  congr 1
  funext a
  apply Fin.ext
  have h0 : k0_off2 L t1 0 = _ := congrFun (off2_eq L t1) 0
  have h1 : k0_off2 L t1 1 = _ := congrFun (off2_eq L t1) 1
  match a with
  | ⟨0, _⟩ =>
    show k0_off2 L t1 0 + 1 * (Shape.reshapeEquiv squeezes_S1x16384_S16384.numel_eq j 0).val = t1.val
    rw [e, h0]; show t1.val + 1 * 0 = _; omega
  | ⟨1, _⟩ =>
    show k0_off2 L t1 1 + 1 * (Shape.reshapeEquiv squeezes_S1x16384_S16384.numel_eq j 1).val = (j 0).val
    rw [e, h1]; show 0 + 1 * (j 0).val = _; omega

end Cert.Proof.Columns

end
-- ==== Proof.Deal.lean ====
/-
  How the launch deals the arrays: each SparseCore takes a read share of the transposed indices and of the transposed
  tables, and every second column; each of its subcores a share of that share, and every 32nd column. They hand back the
  same, with the columns in place.
-/
module

public import proofs.«01_k».proof.Proof.Slices
public import Idealize.ShloMosaic.Lib.Transfers

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type}

local notation "𝕄" => MT nD τ sig (HIx 1) (Elt F) ℕ UU ℕ

/-! ## The parts -/

/-- The coordinates of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of the array of columns that SparseCore `c`'s subcores own: the columns of `c`'s parity. -/
def evens (c : Fin 2) : Finset S832x16384.Idx := Finset.univ.filter fun i => (i 0).val % 2 = c.val

/-- The elements that SparseCore `c`'s subcore `s` owns. -/
abbrev lanes (c : Fin 2) (s : Fin 16) : Finset S832x16384.Idx := own (coordsV c s)

theorem mem_evens {c : Fin 2} {i : S832x16384.Idx} : i ∈ evens c ↔ (i 0).val % 2 = c.val := by simp [evens]

theorem mem_lanes {c : Fin 2} {s : Fin 16} {i : S832x16384.Idx} : i ∈ lanes c s ↔ (i 0).val % 32 = 2 * s.val + c.val := mem_own

theorem evens_disjoint : ∀ c ∈ (Finset.univ : Finset (Fin 2)), ∀ c' ∈ (Finset.univ : Finset (Fin 2)), c ≠ c' → Disjoint (evens c) (evens c') :=
  fun c _ c' _ h => Finset.disjoint_left.mpr fun _ hi hi' => h (Fin.ext ((mem_evens.mp hi).symm.trans (mem_evens.mp hi')))

theorem evens_cover : (Finset.univ : Finset (Fin 2)).biUnion evens = Finset.univ :=
  Finset.eq_univ_iff_forall.mpr fun i => Finset.mem_biUnion.mpr
    ⟨⟨(i 0).val % 2, Nat.mod_lt _ (by decide)⟩, Finset.mem_univ _, mem_evens.mpr rfl⟩

theorem lanes_disjoint (c : Fin 2) :
    ∀ s ∈ (Finset.univ : Finset (Fin 16)), ∀ s' ∈ (Finset.univ : Finset (Fin 16)), s ≠ s' → Disjoint (lanes c s) (lanes c s') :=
  fun s _ s' _ h => Finset.disjoint_left.mpr fun _ hi hi' => h (Fin.ext (by
    have e := mem_lanes.mp hi; have e' := mem_lanes.mp hi'; omega))

theorem lanes_cover (c : Fin 2) : (Finset.univ : Finset (Fin 16)).biUnion (lanes c) = evens c := by
  ext i
  rw [Finset.mem_biUnion, mem_evens]
  constructor
  · rintro ⟨s, -, hs⟩
    have e := mem_lanes.mp hs; have := c.isLt; omega
  · intro h
    refine ⟨⟨(i 0).val % 32 / 2, by omega⟩, Finset.mem_univ _, mem_lanes.mpr ?_⟩
    show _ = 2 * ((i 0).val % 32 / 2) + c.val
    omega

/-- SparseCore `c`'s share of an array every subcore reads, and its subcore `s`'s. -/
def coreShare (c : Fin 2) : PosShare TreeShare := Transfers.dealOf fullShare (Finset.univ : Finset (Fin 2)) c
def tileShare (c : Fin 2) (s : Fin 16) : PosShare TreeShare := Transfers.dealOf (coreShare c) (Finset.univ : Finset (Fin 16)) s

/-! ## What the arrays hold -/

variable (m : (ℓ : Loc nD τ sig) → Buf (Elt F) ℓ)

/-- The transposed indices, the transposed tables, the columns and the result, of the arguments in memory. -/
def xtOf (d : Dev nD) : S26x16384.Idx → Elt F .i32 := transpose S26x16384 [1, 0] (m (xLoc d)) transposes_S16384x26_S26x16384_1_0
def ttOf (d : Dev nD) : S26x32x100000.Idx → Elt F .f32 :=
  transpose S26x32x100000 [0, 2, 1] (m (tabLoc d)) transposes_S26x100000x32_S26x32x100000_0_2_1
def colOf (d : Dev nD) : S832x16384.Idx → Elt F .f32 := column (xtOf m d) (ttOf m d)
def resOf (d : Dev nD) : S16384x832.Idx → Elt F .f32 := transpose S16384x832 [1, 0] (colOf m d) transposes_S832x16384_S16384x832_1_0

/-- Every index in memory names an element of its table. -/
def InRange : Prop := ∀ (d : Dev nD) (i : S16384x26.Idx), ((m (xLoc d) i : BitVec 32)).toNat < 100000

/-- Then so does every transposed index. -/
theorem xtOf_lt (h : InRange m) (d : Dev nD) (i : S26x16384.Idx) : (xtOf m d i : BitVec 32).toNat < 100000 := h d _

/-! ## The payloads -/

/-- The arrays read, at a share, with the part `I` of the array of columns at `f`. -/
def part (d : Dev nD) (q : PosShare TreeShare) (I : Finset S832x16384.Idx) (f : S832x16384.Idx → Elt F .f32) : sProp 𝕄 :=
  iprop((xtLoc d ↦[Finset.univ]{q} (xtOf m d : Buf (Elt F) (xtLoc d))) ∗ (ttLoc d ↦[Finset.univ]{q} (ttOf m d : Buf (Elt F) (ttLoc d)))
    ∗ colLoc d ↦[I]{fullShare} (f : Buf (Elt F) (colLoc d)))

instance part_storable (d : Dev nD) (q : PosShare TreeShare) (I : Finset S832x16384.Idx) (f : S832x16384.Idx → Elt F .f32) :
    BI.Storable (upEmb : UEmb _ 𝕄) (part m d q I f) := by unfold part; infer_instance

theorem nCore_zero : (K (F := F)).nCore 0 = 2 := rfl
theorem nSub_zero : (K (F := F)).nSub 0 = 16 := rfl

/-- What the launch hands out and takes back: to a SparseCore its shares and columns as they are at launch, back with the
    columns in place; to a subcore likewise. -/
def P : (K (F := F)).Pay (nD := nD) (Val := Elt F) (Name := ℕ) (U := UU) where
  st q d c := match q with | 0 => part m d (coreShare (Fin.cast nCore_zero c)) (evens (Fin.cast nCore_zero c)) (m (colLoc d))
  dn q d c := match q with | 0 => part m d (coreShare (Fin.cast nCore_zero c)) (evens (Fin.cast nCore_zero c)) (colOf m d)
  go q d c i := match q with
    | 0 => part m d (tileShare (Fin.cast nCore_zero c) (Fin.cast nSub_zero i)) (lanes (Fin.cast nCore_zero c) (Fin.cast nSub_zero i)) (m (colLoc d))
  td q d c i := match q with
    | 0 => part m d (tileShare (Fin.cast nCore_zero c) (Fin.cast nSub_zero i)) (lanes (Fin.cast nCore_zero c) (Fin.cast nSub_zero i)) (colOf m d)
  x := fun _ _ => iprop(emp)

/-- The launch can keep what it hands out. -/
instance P_storable : (P (F := F) m).IsStorable where
  st q d c := match q with | 0 => part_storable m d _ _ _
  dn q d c := match q with | 0 => part_storable m d _ _ _
  go q d c i := match q with | 0 => part_storable m d _ _ _
  td q d c i := match q with | 0 => part_storable m d _ _ _

/-! ## The parts make up the whole -/

/-- The arrays a SparseCore holds are its subcores' together, -/
theorem part_tiles (d : Dev nD) (c : Fin 2) (f : S832x16384.Idx → Elt F .f32) :
    (part m d (coreShare c) (evens c) f : sProp 𝕄) = bigSep Finset.univ fun s : Fin 16 => part m d (tileShare c s) (lanes c s) f := by
  unfold part
  rw [bigSep_sep', bigSep_sep', ← pointsTo_biUnion Finset.univ (ℓ := colLoc d) (lanes c) (lanes_disjoint c), lanes_cover,
    Transfers.pointsTo_deal (ℓ := xtLoc d) (Finset.univ : Finset (Fin 16)) Finset.univ_nonempty (coreShare c),
    Transfers.pointsTo_deal (ℓ := ttLoc d) (Finset.univ : Finset (Fin 16)) Finset.univ_nonempty (coreShare c)]
  rfl

/-- and the whole arrays the SparseCores' together. -/
theorem whole_cores (d : Dev nD) (f : S832x16384.Idx → Elt F .f32) :
    (part m d fullShare Finset.univ f : sProp 𝕄) = bigSep Finset.univ fun c : Fin 2 => part m d (coreShare c) (evens c) f := by
  unfold part
  rw [bigSep_sep', bigSep_sep', ← pointsTo_biUnion Finset.univ (ℓ := colLoc d) evens evens_disjoint, evens_cover,
    Transfers.pointsTo_deal (ℓ := xtLoc d) (Finset.univ : Finset (Fin 2)) Finset.univ_nonempty fullShare,
    Transfers.pointsTo_deal (ℓ := ttLoc d) (Finset.univ : Finset (Fin 2)) Finset.univ_nonempty fullShare]
  rfl

/-- What a SparseCore is handed it deals among its subcores, and what they hand back is what it hands back. -/
theorem vecSplit : (K (F := F)).VecSplit' (P m) 0 := by
  intro d c
  show part m d (coreShare (Fin.cast nCore_zero c)) (evens (Fin.cast nCore_zero c)) (m (colLoc d)) ⊢ |={Set.univ}=> iprop(
      (bigSep (Finset.univ : Finset (Fin 16)) fun s => part m d (tileShare (Fin.cast nCore_zero c) s) (lanes (Fin.cast nCore_zero c) s) (m (colLoc d)))
      ∗ ((bigSep (Finset.univ : Finset (Fin 16)) fun s => part m d (tileShare (Fin.cast nCore_zero c) s) (lanes (Fin.cast nCore_zero c) s) (colOf m d))
          -∗ part m d (coreShare (Fin.cast nCore_zero c)) (evens (Fin.cast nCore_zero c)) (colOf m d)))
  rw [← part_tiles, ← part_tiles]
  iintro H; imodintro
  isplitl [H]; · iexact H
  iintro H; iexact H

/-- The whole arrays are what the launch hands the SparseCores, -/
theorem st_eq (d : Dev nD) :
    (bigSep Finset.univ fun c : Fin ((K (F := F)).nCore 0) => (P m).st 0 d c) = (part m d fullShare Finset.univ (m (colLoc d)) : sProp 𝕄) := by
  rw [whole_cores]; rfl

/-- and with the columns in place what it takes back. -/
theorem dn_eq (d : Dev nD) :
    (bigSep Finset.univ fun c : Fin ((K (F := F)).nCore 0) => (P m).dn 0 d c) = (part m d fullShare Finset.univ (colOf m d) : sProp 𝕄) := by
  rw [whole_cores]; rfl

end Cert.Proof.Columns

end
-- ==== Proof.Step.lean ====
/-
  One vector step of the embedding-columns kernel: sixteen fetched indices are loaded, checked, looked up in the fetched
  row, and the sixteen elements are stored in the half-column scratch. The step is stated once, at symbolic offsets; the
  innermost loop takes it eight times a trip.
-/
module

public import proofs.«01_k».proof.Proof.Setup
public import Idealize.ShloMosaic.Lib.Writes

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}

local notation "𝕄" => MT nD τ sig (HIx 1) (Elt F) ℕ UU ℕ

/-- A subcore's scratch row of a table, holding `t`. -/
abbrev ptT (d : Dev nD) (L : grid0.Coords) (t : S100000.Idx → Elt F .f32) : sProp 𝕄 :=
  (sT.view.loc (thr d L)) ↦[Finset.univ]{fullShare} (t : Buf (Elt F) (sT.view.loc (thr d L)))
/-- A subcore's scratch row of indices, holding `x`. -/
abbrev ptX (d : Dev nD) (L : grid0.Coords) (x : S16384.Idx → Elt F .i32) : sProp 𝕄 :=
  (sX.view.loc (thr d L)) ↦[Finset.univ]{fullShare} (x : Buf (Elt F) (sX.view.loc (thr d L)))
/-- A subcore's scratch half of a column, holding `s`. -/
abbrev ptC (d : Dev nD) (L : grid0.Coords) (s : S8192.Idx → Elt F .f32) : sProp 𝕄 :=
  (sC.view.loc (thr d L)) ↦[Finset.univ]{fullShare} (s : Buf (Elt F) (sC.view.loc (thr d L)))

/-- Sixteen indices of the fetched row, from `a` on. -/
abbrev rX (a : Fin 1 → Nat) (ha : ∀ k, a k + S16.size k ≤ S16384.size k) : Rect S16384 := Rect.unit (s := S16384) a S16.size ha
/-- Sixteen elements of the half-column scratch, from `b` on. -/
abbrev rC (b : Fin 1 → Nat) (hb : ∀ k, b k + S16.size k ≤ S8192.size k) : Rect S8192 := Rect.unit (s := S8192) b S16.size hb

/-- What a load of sixteen indices reads. -/
theorem readX {a : Fin 1 → Nat} {ha : ∀ k, a k + S16.size k ≤ S16384.size k} (x : S16384.Idx → Elt F .i32) (l : S16.Idx) :
    (sX.view.readAt (Elt F) (rX a ha).toLoadRect x : S16.Idx → Elt F .i32) l = x (xpos (a 0 + (l 0).val)) := by
  show x _ = x _
  congr 1
  funext k
  obtain rfl : k = (0 : Fin 1) := Subsingleton.elim (α := Fin 1) _ _
  apply Fin.ext
  show a 0 + 1 * (l 0).val = (a 0 + (l 0).val) % 16384
  have h1 : a 0 + 16 ≤ 16384 := ha 0
  have h2 : (l 0).val < 16 := (l 0).isLt
  omega

/-- What the lookup of the sixteen loaded indices gives: their elements of the fetched row. -/
theorem lookupX {a : Fin 1 → Nat} {ha : ∀ k, a k + S16.size k ≤ S16384.size k} {x : S16384.Idx → Elt F .i32}
    (t : S100000.Idx → Elt F .f32) (hx : ∀ i, (x i : BitVec 32).toNat < 100000) {v : IVec S16 32}
    (ev : v = sX.view.readAt (Elt F) (rX a ha).toLoadRect x)
    (hv : ∀ q i, ((![v] : Fin S100000.rank → IVec S16 32) q i).toNat < S100000.size q) (l : S16.Idx) :
    loadIdx ((sT.access (.whole S100000)).read (Elt F) t) ![v] hv l = look t (x (xpos (a 0 + (l 0).val))) := by
  show (sT.access (.whole S100000)).read (Elt F) t (idxAt ![v] hv l) = _
  have e : (sT.access (.whole S100000)).read (Elt F) t = t := Memref.read_access_whole (Elt F) cc0_scratch0 t
  rw [e]
  show t _ = t _
  congr 1
  funext q
  obtain rfl : q = (0 : Fin 1) := Subsingleton.elim (α := Fin 1) _ _
  apply Fin.ext
  have e' : v l = x (xpos (a 0 + (l 0).val)) := by rw [ev]; exact readX x l
  show (v l).toNat = (x (xpos (a 0 + (l 0).val)) : BitVec 32).toNat % 100000
  rw [e', Nat.mod_eq_of_lt (hx _)]

/-- The store of sixteen looked-up elements after the first `n` leaves the first `n + 16` filled. -/
theorem filled_step {x : S16384.Idx → Elt F .i32} {t : S100000.Idx → Elt F .f32} {s : S8192.Idx → Elt F .f32} {h n : Nat}
    {b : Fin 1 → Nat} {hb : ∀ k, b k + S16.size k ≤ S8192.size k}
    (eb : b 0 = n) (hs : Filled x t h n s) (w : S16.Idx → Elt F .f32)
    (hw : ∀ l : S16.Idx, w l = look t (x (xpos (8192 * h + n + (l 0).val)))) :
    Filled x t h (n + 16) ((sC.access (rC b hb)).write (Elt F) s w Finset.univ) := by
  intro j hj
  have hb16 : b 0 + 16 ≤ 8192 := hb 0
  have hj8 : (j 0).val < 8192 := (j 0).isLt
  show sC.view.read (Elt F) (sC.view.writes (Elt F) s [⟨rC b hb, w⟩]) j = _
  by_cases hlt : (j 0).val < n
  · rw [View.read_writes_cons_miss_of_axis sC.view s _ _ j (0 : Fin 1) n 16 eb rfl rfl (.inl hlt)]
    exact hs j hlt
  · rw [View.read_writes_cons_hit_of_coords sC.view s (rC b hb) _ [] (Fin.cons ⟨(j 0).val - n, by show _ < 16; omega⟩ finZeroElim : S16.Idx) j
      (fun q => by
        obtain rfl : q = (0 : Fin 1) := Subsingleton.elim (α := Fin 1) _ _
        show (j 0).val = b 0 + 1 * ((j 0).val - n)
        omega), hw]
    have e : 8192 * h + n + ((j 0).val - n) = 8192 * h + (j 0).val := by omega
    show look t (x (xpos (8192 * h + n + ((j 0).val - n)))) = _
    rw [e]

variable [FloatOps F]

/-- One vector step: with the fetched indices all naming elements, and the first `n` elements of the half column in
    place, the program goes on with the first `n + 16` in place. -/
theorem wp_step {β : Type} (d : Dev nD) (L : grid0.Coords) {x : S16384.Idx → Elt F .i32} {t : S100000.Idx → Elt F .f32}
    {s : S8192.Idx → Elt F .f32} {h n : Nat} {a b : Fin 1 → Nat} {ha : ∀ k, a k + S16.size k ≤ S16384.size k}
    {hb : ∀ k, b k + S16.size k ≤ S8192.size k} (ea : a 0 = 8192 * h + n) (eb : b 0 = n)
    (hx : ∀ i, (x i : BitVec 32).toNat < 100000) (hs : Filled x t h n s)
    {chk : IVec S16 32 → Prop} {dec : ∀ v, Decidable (chk v)}
    {inb : ∀ v, chk v → ∀ q i, ((![v] : Fin S100000.rank → IVec S16 32) q i).toNat < S100000.size q}
    (hchk : ∀ v : IVec S16 32, (∀ i, (v i).toNat < 100000) → chk v)
    {l1 : sX.view.LoadsAt (rX a ha).toLoadRect} {l2 : sT.view.Loads} {l3 : sC.view.LoadsAt (rC b hb).toLoadRect}
    {st : (sC.access (rC b hb)).Stores Finset.univ} {hm}
    {Q : β → sProp 𝕄}
    {kk : Unit → Prog (TpuEff nD τ sig (Elt F) Λ₀ (thr d L).2) β} :
    iprop(ptX d L x ∗ ptT d L t ∗ ptC d L s)
      ⊢ iprop((∀ s', ⌜Filled x t h (n + 16) s'⌝ -∗ ptX d L x -∗ ptT d L t -∗ ptC d L s' -∗ wp frame (wpE defs₀ 𝒱₀ (thr d L) none) Set.univ (kk ⟨⟩) Q)
        -∗ wp frame (wpE defs₀ 𝒱₀ (thr d L) none) Set.univ
          (.op (.load sX (rX a ha).toLoadRect l1) fun (v : IVec S16 32) => .op (TpuEff.assume (chk v) (dec v)) fun w =>
            SparseCore.vectorLoadIdx sT ![v] (inb v w.down) l2 >>= fun g =>
              .op (.load sC (rC b hb).toLoadRect l3) fun _ => .op (.store sC (rC b hb) g Finset.univ st hm) kk) Q) := by
  iintro ⟨HX, HT, HC⟩ Hk
  iapply (wp_load 𝒱₀ (thr d L) none Set.univ (m := sX) (S := Finset.univ) (Finset.subset_univ _)) $$ HX; iintro HX
  have hv : ∀ i, ((sX.view.readAt (Elt F) (rX a ha).toLoadRect x : IVec S16 32) i).toNat < 100000 := fun i => by
    rw [readX (ha := ha) x i]; exact hx _
  rw [wp_assume_of _ _ _ _ (hchk _ hv)]
  iapply (SparseCore.wp_vectorLoadIdx 𝒱₀ (thr d L) none Set.univ (base := sT) (S := Finset.univ) (q := fullShare) (Finset.subset_univ _)) $$ HT; iintro HT
  iapply (wp_load 𝒱₀ (thr d L) none Set.univ (m := sC) (S := Finset.univ) (Finset.subset_univ _)) $$ HC; iintro HC
  iapply (wp_store 𝒱₀ (thr d L) none Set.univ (m := sC) (r := rC b hb) (Mk := Finset.univ) (S := Finset.univ) (Finset.subset_univ _)) $$ HC; iintro HC
  iapply Hk $$ [] HX HT HC
  ipureintro
  exact filled_step eb hs _ fun l => by rw [lookupX t hx rfl, ea]

end Cert.Proof.Columns

end
-- ==== Proof.Half.lean ====
/-
  The innermost loop of the embedding-columns kernel: 64 trips of eight vector steps each fill the half-column scratch.
-/
module

public import proofs.«01_k».proof.Proof.Step

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

/-- What the program checks of sixteen loaded indices, from all of them naming elements. -/
theorem chk_of_lt (v : IVec S16 32) (h : ∀ i, (v i).toNat < 100000) : k0_chk1 v := fun q i => by
  obtain rfl : q = (0 : Fin 1) := Subsingleton.elim (α := Fin 1) _ _
  exact h i

/-- One trip of the innermost loop: 128 more elements of the half column are in place. -/
theorem wp_trip (d : Dev nD) (L : grid0.Coords) {x : S16384.Idx → Elt F .i32} {t : S100000.Idx → Elt F .f32}
    {s : S8192.Idx → Elt F .f32} (t2 : Fin k0_t2_loop.trips) (t3 : Fin k0_t3_loop.trips) (arg10 : BitVec 32)
    (hx : ∀ i, (x i : BitVec 32).toNat < 100000) (hs : Filled x t t2.val (128 * t3.val) s) {Q : Unit → sProp 𝕄} :
    iprop(ptX d L x ∗ ptT d L t ∗ ptC d L s)
      ⊢ iprop((∀ s', ⌜Filled x t t2.val (128 * t3.val + 128) s'⌝ -∗ ptX d L x -∗ ptT d L t -∗ ptC d L s' -∗ Q ())
        -∗ wp frame (wpE defs₀ 𝒱₀ (thr d L) none) Set.univ
          (k0_t3_body (F := F) L xtV (Memref.isWhole_whole _) ttV (Memref.isWhole_whole _) colV (Memref.isWhole_whole _)
            sT (Memref.isWhole_whole _) sX (Memref.isWhole_whole _) sC (Memref.isWhole_whole _)
            cc0_scratch3 cc0_scoped0 cc0_scoped1 t2 arg10 t3 ()) Q) := by
  unfold k0_t3_body
  simp only [k0_part1_eq_skeleton, k0_part2_eq_skeleton]
  unfold k0_part1_skel k0_part2_skel
  simp only [Prog.lift, Prog.bind_op, Prog.bind_ret, bind_assoc, pure_bind]
  iintro ⟨HX, HT, HC⟩ Hk
  iapply (wp_step d L (n := 128 * t3.val) (h := t2.val) (congrFun (k0_off3_eq t2 t3) 0) (congrFun (k0_off4_eq t3) 0) hx hs chk_of_lt) $$ [HX HT HC]
  · isplitl [HX]; · iexact HX
    isplitl [HT]; · iexact HT
    iexact HC
  iintro %s1 %h1 HX HT HC
  iapply (wp_step d L (n := 128 * t3.val + 16) (h := t2.val) (congrFun (k0_off5_eq t2 t3) 0) (congrFun (k0_off6_eq t3) 0) hx h1 chk_of_lt) $$ [HX HT HC]
  · isplitl [HX]; · iexact HX
    isplitl [HT]; · iexact HT
    iexact HC
  iintro %s2 %h2 HX HT HC
  iapply (wp_step d L (n := 128 * t3.val + 32) (h := t2.val) (congrFun (k0_off7_eq t2 t3) 0) (congrFun (k0_off8_eq t3) 0) hx h2 chk_of_lt) $$ [HX HT HC]
  · isplitl [HX]; · iexact HX
    isplitl [HT]; · iexact HT
    iexact HC
  iintro %s3 %h3 HX HT HC
  iapply (wp_step d L (n := 128 * t3.val + 48) (h := t2.val) (congrFun (k0_off9_eq t2 t3) 0) (congrFun (k0_off10_eq t3) 0) hx h3 chk_of_lt) $$ [HX HT HC]
  · isplitl [HX]; · iexact HX
    isplitl [HT]; · iexact HT
    iexact HC
  iintro %s4 %h4 HX HT HC
  iapply (wp_step d L (n := 128 * t3.val + 64) (h := t2.val) (congrFun (k0_off11_eq t2 t3) 0) (congrFun (k0_off12_eq t3) 0) hx h4 chk_of_lt) $$ [HX HT HC]
  · isplitl [HX]; · iexact HX
    isplitl [HT]; · iexact HT
    iexact HC
  iintro %s5 %h5 HX HT HC
  iapply (wp_step d L (n := 128 * t3.val + 80) (h := t2.val) (congrFun (k0_off13_eq t2 t3) 0) (congrFun (k0_off14_eq t3) 0) hx h5 chk_of_lt) $$ [HX HT HC]
  · isplitl [HX]; · iexact HX
    isplitl [HT]; · iexact HT
    iexact HC
  iintro %s6 %h6 HX HT HC
  iapply (wp_step d L (n := 128 * t3.val + 96) (h := t2.val) (congrFun (k0_off15_eq t2 t3) 0) (congrFun (k0_off16_eq t3) 0) hx h6 chk_of_lt) $$ [HX HT HC]
  · isplitl [HX]; · iexact HX
    isplitl [HT]; · iexact HT
    iexact HC
  iintro %s7 %h7 HX HT HC
  iapply (wp_step d L (n := 128 * t3.val + 112) (h := t2.val) (congrFun (k0_off17_eq t2 t3) 0) (congrFun (k0_off18_eq t3) 0) hx h7 chk_of_lt) $$ [HX HT HC]
  · isplitl [HX]; · iexact HX
    isplitl [HT]; · iexact HT
    iexact HC
  iintro %s8 %h8 HX HT HC
  rw [Prog.pure_eq_ret, wp_ret]
  imodintro
  iapply Hk $$ [] HX HT HC
  ipureintro; exact h8

/-- Before trip `n` of the innermost loop: the fetched rows, and the first `128 n` elements of the half column. -/
def halfInv (d : Dev nD) (L : grid0.Coords) (x : S16384.Idx → Elt F .i32) (t : S100000.Idx → Elt F .f32) (h : Nat) (n : Nat)
    (_ : Unit) : sProp 𝕄 :=
  iprop(ptX d L x ∗ ptT d L t ∗ ∃ s, ⌜Filled x t h (128 * n) s⌝ ∗ ptC d L s)

/-- The innermost loop fills the half-column scratch. -/
theorem wp_half {β : Type} (d : Dev nD) (L : grid0.Coords) {x : S16384.Idx → Elt F .i32} {t : S100000.Idx → Elt F .f32}
    {s : S8192.Idx → Elt F .f32} (t2 : Fin k0_t2_loop.trips) (arg10 : BitVec 32)
    (hx : ∀ i, (x i : BitVec 32).toNat < 100000) {Q : β → sProp 𝕄}
    {kk : Unit → Prog (TpuEff nD τ sig (Elt F) Λ₀ (thr d L).2) β} :
    iprop(ptX d L x ∗ ptT d L t ∗ ptC d L s)
      ⊢ iprop((∀ s', ⌜Filled x t t2.val 8192 s'⌝ -∗ ptX d L x -∗ ptT d L t -∗ ptC d L s'
            -∗ wp frame (wpE defs₀ 𝒱₀ (thr d L) none) Set.univ (kk ()) Q)
        -∗ wp frame (wpE defs₀ 𝒱₀ (thr d L) none) Set.univ
          (Scf.Loop.for k0_t3_loop k0_t3_ok ⟨⟩ (k0_t3_body (F := F) L xtV (Memref.isWhole_whole _) ttV (Memref.isWhole_whole _) colV
            (Memref.isWhole_whole _) sT (Memref.isWhole_whole _) sX (Memref.isWhole_whole _) sC (Memref.isWhole_whole _)
            cc0_scratch3 cc0_scoped0 cc0_scoped1 t2 arg10) >>= kk) Q) := by
  iintro ⟨HX, HT, HC⟩ Hk
  sl_for (halfInv d L x t t2.val) $$ [HX HT HC]
  case region =>
    intro k _
    unfold halfInv
    iintro ⟨HX, HT, %s, %hs, HC⟩
    iapply (wp_trip d L t2 k arg10 hx hs) $$ [HX HT HC]
    · isplitl [HX]; · iexact HX
      isplitl [HT]; · iexact HT
      iexact HC
    iintro %s' %hs' HX HT HC
    isplitl [HX]; · iexact HX
    isplitl [HT]; · iexact HT
    iexists s'
    isplitr; · ipureintro; exact hs'
    iexact HC
  · unfold halfInv
    isplitl [HX]; · iexact HX
    isplitl [HT]; · iexact HT
    iexists s
    isplitr; · ipureintro; exact fun j hj => absurd hj (Nat.not_lt_zero _)
    iexact HC
  · iintro %_ HI
    unfold halfInv
    icases HI with ⟨HX, HT, %s', %hs', HC⟩
    iapply Hk $$ [] HX HT HC
    ipureintro; exact hs'

end Cert.Proof.Columns

end
-- ==== Proof.Trip.lean ====
/-
  The middle loop of the embedding-columns kernel: each half of a column is filled in scratch and copied out.
-/
module

public import proofs.«01_k».proof.Proof.Half
public import proofs.«01_k».proof.Proof.Slices

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

/-- The part of the columns' array a subcore owns, holding `f`. -/
abbrev ptOwn (d : Dev nD) (L : grid0.Coords) (f : S832x16384.Idx → Elt F .f32) : sProp 𝕄 :=
  (colV.view.loc (thr d L)) ↦[own L]{fullShare} (f : Buf (Elt F) (colV.view.loc (thr d L)))

/-- Before half `n` of the column that the subcore at `L` fills in trip `t1`: the rows it fetched, the scratch, the part of the
    array of columns it owns with all halves so far in place, the counter of the copies out at zero, and the waits so far. -/
def colInv (d : Dev nD) (L : grid0.Coords) (xt : S26x16384.Idx → Elt F .i32) (tt : S26x32x100000.Idx → Elt F .f32)
    (O : CellTallies nD τ sig (HIx 1)) (W : Waits sig (HIx 1)) (t1 : Fin k0_t1_loop.trips) (n : Nat) (_ : Unit) : sProp 𝕄 :=
  iprop(Transfers.MayWaits (thr d L) (none : HIx 1) O ∗ ptX d L (rowX xt (tab t1)) ∗ ptT d L (rowT tt (tab t1) (lane L)) ∗ (∃ s, ptC d L s)
    ∗ (∃ f, ⌜Done L (2 * t1.val + n) (column xt tt) f⌝ ∗ ptOwn d L f)
    ∗ semVal (thr d L, SemLoc.dma cc0_scoped1.sem) 0
    ∗ ∃ W', ⌜∀ p ∈ W', p ∈ W ∨ p.2 = none⌝ ∗ owes (thr d L) O W')

omit [FloatOps F] in
/-- The elements of a half column, as the copy out addresses them, are elements of the array of columns. -/
theorem pts_half (d : Dev nD) (L : grid0.Coords) (t1 : Fin k0_t1_loop.trips) (t2 : Fin k0_t2_loop.trips) (f : S832x16384.Idx → Elt F .f32) :
    (((colV.slice (Rect.unit (s := S832x16384) (k0_off19 L t1 t2) S1x8192.size (k0_off19_inb L t1 t2)) (fun _ => rfl)).squeeze S8192
          squeezes_S1x8192_S8192).view.loc (thr d L)
        ↦[((colV.slice (Rect.unit (s := S832x16384) (k0_off19 L t1 t2) S1x8192.size (k0_off19_inb L t1 t2)) (fun _ => rfl)).squeeze S8192
          squeezes_S1x8192_S8192).view.set]{fullShare} f : sProp 𝕄)
      = ((colV.view.loc (thr d L)) ↦[(halfV L t1 t2).view.set]{fullShare} (f : Buf (Elt F) (colV.view.loc (thr d L)))) := rfl

omit [FloatOps F] in
/-- A copy into a half column leaves the other elements a subcore owns as they were. -/
theorem pts_rest (d : Dev nD) (L : grid0.Coords) (t1 : Fin k0_t1_loop.trips) (t2 : Fin k0_t2_loop.trips)
    (f : S832x16384.Idx → Elt F .f32) (w : S8192.Idx → Elt F .f32) :
    ((colV.view.loc (thr d L)) ↦[own L \ (halfV L t1 t2).view.set]{fullShare}
        ((halfV L t1 t2).view.writes (Elt F) f [⟨Rect.whole S8192, w⟩] : S832x16384.Idx → Elt F .f32) : sProp 𝕄)
      = ((colV.view.loc (thr d L)) ↦[own L \ (halfV L t1 t2).view.set]{fullShare} (f : Buf (Elt F) (colV.view.loc (thr d L)))) :=
  pointsTo_congr fun i hi => (writes_half L t1 t2 f w).1 i (Finset.mem_sdiff.mp hi).2

/-- A wait of the body's own, recorded, is again one that the launch's evidence covers. -/
theorem waits_insert {W W' : Waits sig (HIx 1)} {l : SemLoc sig} (h : ∀ p ∈ W', p ∈ W ∨ p.2 = none) :
    ∀ p ∈ insert (l, (default : HIx 1)) W', p ∈ W ∨ p.2 = none := fun p hp => by
  rcases Finset.mem_insert.mp hp with hp | hp
  · exact .inr (hp ▸ rfl)
  · exact h p hp

/-- One trip of the middle loop. -/
theorem wp_col (d : Dev nD) (L : grid0.Coords) {xt : S26x16384.Idx → Elt F .i32} (tt : S26x32x100000.Idx → Elt F .f32)
    (O : CellTallies nD τ sig (HIx 1)) (W : Waits sig (HIx 1)) (t1 : Fin k0_t1_loop.trips)
    (t2 : Fin k0_t2_loop.trips) (hxt : ∀ i, (xt i : BitVec 32).toNat < 100000) :
    colInv d L xt tt O W t1 t2.val ()
      ⊢ wp frame (wpE defs₀ 𝒱₀ (thr d L) none) Set.univ
          (k0_t2_body (F := F) L xtV (Memref.isWhole_whole _) ttV (Memref.isWhole_whole _) colV
            (Memref.isWhole_whole _) sT (Memref.isWhole_whole _) sX (Memref.isWhole_whole _) sC (Memref.isWhole_whole _)
            cc0_scratch3 cc0_scoped0 cc0_scoped1 t1 t2 ()) (colInv d L xt tt O W t1 (t2.val + 1)) := by
  unfold k0_t2_body colInv
  iintro ⟨Hmw, HX, HT, ⟨%s, HC⟩, ⟨%f, %hf, Hown⟩, Hsem, %W', %hW', HO⟩
  iapply (wp_half d L t2 _ (fun i => hxt _)) $$ [HX HT HC]
  · isplitl [HX]; · iexact HX
    isplitl [HT]; · iexact HT
    iexact HC
  iintro %s' %hs' HX HT HC
  ihave Hsp := (pointsTo_split_subset (piece_subset L t1 t2)).1 $$ Hown
  icases Hsp with ⟨Hpc, Hrest⟩
  ihave Hpc := (Entails.of_eq (pts_half d L t1 t2 f).symm) $$ Hpc
  sl_exec (disch := exact View.amount_pos _ _ (show 0 < S8192.numel by decide))
  sl_step
  isplitl [Hmw]; · iexact Hmw
  isplitl [HX]; · iexact HX
  isplitl [HT]; · iexact HT
  isplitl [HC]; · iexists s'; iexact HC
  isplitl [Hpc Hrest]
  · iexists ((halfV L t1 t2).view.writes (Elt F) f [⟨Rect.whole S8192, s'⟩] : S832x16384.Idx → Elt F .f32)
    isplitr; · ipureintro; exact done_step hf hs'
    iapply (pointsTo_split_subset (piece_subset L t1 t2)).2
    isplitl [Hpc]; · iexact Hpc
    rw [pts_rest d L t1 t2 f s']
    iexact Hrest
  isplitl [Hsem]; · iexact Hsem
  iexists (insert (SemLoc.dma cc0_scoped1.sem, (default : HIx 1)) W'); isplitr
  · ipureintro; exact waits_insert hW'
  · iexact HO

end Cert.Proof.Columns

end
-- ==== Proof.Tile.lean ====
/-
  One vector subcore's whole run of the embedding-columns kernel: for each table, a row of it and the table's indices are
  fetched, and the two halves of the column are filled and copied out.
-/
module

public import proofs.«01_k».proof.Proof.Trip

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

/-- A share of the transposed indices, and of the transposed tables, as a subcore reads them. -/
abbrev ptXt (d : Dev nD) (L : grid0.Coords) (q : PosShare TreeShare) (xt : S26x16384.Idx → Elt F .i32) : sProp 𝕄 :=
  (xtV.view.loc (thr d L)) ↦[Finset.univ]{q} (xt : Buf (Elt F) (xtV.view.loc (thr d L)))
abbrev ptTt (d : Dev nD) (L : grid0.Coords) (q : PosShare TreeShare) (tt : S26x32x100000.Idx → Elt F .f32) : sProp 𝕄 :=
  (ttV.view.loc (thr d L)) ↦[Finset.univ]{q} (tt : Buf (Elt F) (ttV.view.loc (thr d L)))

/-- Before trip `n` over the tables: the shares of the arrays read, the scratch, the part of the array of columns owned
    with the columns of the tables so far in place, the three counters at zero, and the waits so far. -/
def tileInv (d : Dev nD) (L : grid0.Coords) (q : PosShare TreeShare) (xt : S26x16384.Idx → Elt F .i32)
    (tt : S26x32x100000.Idx → Elt F .f32) (O : CellTallies nD τ sig (HIx 1)) (W : Waits sig (HIx 1)) (n : Nat) (_ : Unit) : sProp 𝕄 :=
  iprop(Transfers.MayWaits (thr d L) (none : HIx 1) O ∗ ptXt d L q xt ∗ ptTt d L q tt
    ∗ (∃ x, ptX d L x) ∗ (∃ t, ptT d L t) ∗ (∃ s, ptC d L s)
    ∗ (∃ f, ⌜Done L (2 * n) (column xt tt) f⌝ ∗ ptOwn d L f)
    ∗ semVal (thr d L, SemLoc.dma cc0_scratch3.sem) 0 ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

omit [FloatOps F] in
/-- The scratch that a row of indices is fetched into holds that row, -/
theorem pts_fetchedX (d : Dev nD) (L : grid0.Coords) (t1 : Fin k0_t1_loop.trips) (xt : S26x16384.Idx → Elt F .i32) (x : S16384.Idx → Elt F .i32) :
    (ptX d L (sX.view.write (Elt F) x ((rowXV L t1).view.read (Elt F) xt) Finset.univ) : sProp 𝕄) = ptX d L (rowX xt (tab t1)) := by
  have e : sX.view.write (Elt F) x ((rowXV L t1).view.read (Elt F) xt) Finset.univ = rowX xt (tab t1) :=
    (View.write_whole_univ _ _ _).trans (read_rowX L t1 xt)
  rw [e]

omit [FloatOps F] in
/-- and the scratch that a row of a table is fetched into holds that row. -/
theorem pts_fetchedT (d : Dev nD) (L : grid0.Coords) (t1 : Fin k0_t1_loop.trips) (tt : S26x32x100000.Idx → Elt F .f32) (t : S100000.Idx → Elt F .f32) :
    (ptT d L (sT.view.write (Elt F) t ((rowTV L t1).view.read (Elt F) tt) Finset.univ) : sProp 𝕄) = ptT d L (rowT tt (tab t1) (lane L)) := by
  have e : sT.view.write (Elt F) t ((rowTV L t1).view.read (Elt F) tt) Finset.univ = rowT tt (tab t1) (lane L) :=
    (View.write_whole_univ _ _ _).trans (read_rowT L t1 tt)
  rw [e]

/-- One trip over the tables. -/
theorem wp_table (d : Dev nD) (L : grid0.Coords) (q : PosShare TreeShare) {xt : S26x16384.Idx → Elt F .i32}
    (tt : S26x32x100000.Idx → Elt F .f32) (O : CellTallies nD τ sig (HIx 1)) (W : Waits sig (HIx 1)) (v1 : BitVec 32)
    (t1 : Fin k0_t1_loop.trips) (hxt : ∀ i, (xt i : BitVec 32).toNat < 100000) :
    tileInv d L q xt tt O W t1.val ()
      ⊢ wp frame (wpE defs₀ 𝒱₀ (thr d L) none) Set.univ
          (k0_t1_body (F := F) L xtV (Memref.isWhole_whole _) ttV (Memref.isWhole_whole _) colV
            (Memref.isWhole_whole _) sT (Memref.isWhole_whole _) sX (Memref.isWhole_whole _) sC (Memref.isWhole_whole _)
            cc0_scratch3 cc0_scoped0 cc0_scoped1 v1 t1 ()) (tileInv d L q xt tt O W (t1.val + 1)) := by
  unfold k0_t1_body tileInv
  simp only [k0_part3_eq_skeleton]
  unfold k0_part3_skel
  iintro ⟨Hmw, Hxt, Htt, ⟨%x, HX⟩, ⟨%t, HT⟩, ⟨%s, HC⟩, ⟨%f, %hf, Hown⟩, Hs0, Hs1, Hs2, %W', %hW', HO⟩
  sl_exec (disch := exact View.amount_pos _ _ (show 0 < S8192.numel by decide))
  unfold wp_table.sl.dma0_1 wp_table.sl.dma0
  ihave HX := (Entails.of_eq (pts_fetchedX d L t1 xt x)) $$ HX
  ihave HT := (Entails.of_eq (pts_fetchedT d L t1 tt t)) $$ HT
  sl_for (colInv d L xt tt O W t1) $$ [Hmw HX HT HC Hown Hs2 HO]
  case region =>
    intro t2 _
    exact wp_col d L tt O W t1 t2 hxt
  · unfold colInv
    isplitl [Hmw]; · iexact Hmw
    isplitl [HX]; · iexact HX
    isplitl [HT]; · iexact HT
    isplitl [HC]; · iexists s; iexact HC
    isplitl [Hown]
    · iexists f; isplitr
      · ipureintro; exact hf
      · iexact Hown
    isplitl [Hs2]; · iexact Hs2
    iexists (insert (SemLoc.dma cc0_scratch3.sem, (default : HIx 1)) (insert (SemLoc.dma cc0_scoped0.sem, (default : HIx 1)) W')); isplitr
    · ipureintro; exact waits_insert (waits_insert hW')
    · iexact HO
  iintro %_ HI
  unfold colInv
  icases HI with ⟨Hmw, HX, HT, ⟨%s', HC⟩, ⟨%f', %hf', Hown⟩, Hs2, %W'', %hW'', HO⟩
  sl_exec
  sl_step
  isplitl [Hmw]; · iexact Hmw
  isplitl [Hxt]; · iexact Hxt
  isplitl [Htt]; · iexact Htt
  isplitl [HX]; · iexists _; iexact HX
  isplitl [HT]; · iexists _; iexact HT
  isplitl [HC]; · iexists s'; iexact HC
  isplitl [Hown]
  · iexists f'; isplitr
    · ipureintro; exact hf'
    · iexact Hown
  isplitl [Hs0]; · iexact Hs0
  isplitl [Hs1]; · iexact Hs1
  isplitl [Hs2]; · iexact Hs2
  iexists W''; isplitr
  · ipureintro; exact hW''
  · iexact HO

/-- A subcore's whole run, over what its launch deals it: it leaves every column it owns in place. -/
theorem wp_kernel (d : Dev nD) (L : grid0.Coords) (q : PosShare TreeShare) {xt : S26x16384.Idx → Elt F .i32}
    (tt : S26x32x100000.Idx → Elt F .f32) (O : CellTallies nD τ sig (HIx 1)) (W : Waits sig (HIx 1))
    (hxt : ∀ i, (xt i : BitVec 32).toNat < 100000) {f : S832x16384.Idx → Elt F .f32} {x : S16384.Idx → Elt F .i32}
    {t : S100000.Idx → Elt F .f32} {s : S8192.Idx → Elt F .f32} {Q : PUnit → sProp 𝕄} :
    iprop(Transfers.MayWaits (thr d L) (none : HIx 1) O ∗ ptXt d L q xt ∗ ptTt d L q tt ∗ ptX d L x ∗ ptT d L t ∗ ptC d L s ∗ ptOwn d L f
        ∗ semVal (thr d L, SemLoc.dma cc0_scratch3.sem) 0 ∗ semVal (thr d L, SemLoc.dma cc0_scoped0.sem) 0
        ∗ semVal (thr d L, SemLoc.dma cc0_scoped1.sem) 0 ∗ owes (thr d L) O W)
      ⊢ iprop((tileInv d L q xt tt O W k0_t1_loop.trips () -∗ Q ⟨⟩)
        -∗ wp frame (wpE defs₀ 𝒱₀ (thr d L) none) Set.univ
          (cc0__embed_cols (F := F) L xtV (Memref.isWhole_whole _) ttV (Memref.isWhole_whole _) colV
            (Memref.isWhole_whole _) sT (Memref.isWhole_whole _) sX (Memref.isWhole_whole _) sC (Memref.isWhole_whole _)
            cc0_scratch3 cc0_scoped0 cc0_scoped1) Q) := by
  simp only [cc0__embed_cols_eq_skeleton]; unfold cc0__embed_cols_skel
  iintro ⟨Hmw, Hxt, Htt, HX, HT, HC, Hown, Hs0, Hs1, Hs2, HO⟩ Hk
  sl_exec
  sl_for (tileInv d L q xt tt O W) $$ [Hmw Hxt Htt HX HT HC Hown Hs0 Hs1 Hs2 HO]
  case region =>
    intro t1 _
    exact wp_table d L q tt O W _ t1 hxt
  · unfold tileInv
    isplitl [Hmw]; · iexact Hmw
    isplitl [Hxt]; · iexact Hxt
    isplitl [Htt]; · iexact Htt
    isplitl [HX]; · iexists x; iexact HX
    isplitl [HT]; · iexists t; iexact HT
    isplitl [HC]; · iexists s; iexact HC
    isplitl [Hown]
    · iexists f; isplitr
      · ipureintro; exact fun i _ hi => absurd hi (Nat.not_lt_zero _)
      · iexact Hown
    isplitl [Hs0]; · iexact Hs0
    isplitl [Hs1]; · iexact Hs1
    isplitl [Hs2]; · iexact Hs2
    iexists W; isplitr
    · ipureintro; exact fun p hp => .inl hp
    · iexact HO
  iintro %_ HI
  sl_exec
  sl_step
  iapply Hk
  iexact HI

end Cert.Proof.Columns

end
-- ==== Proof.Task.lean ====
/-
  The embedding-columns kernel as one subcore's task of the launch: from what the launch hands the subcore to what it
  hands back, with the subcore's own buffers and semaphores in between.
-/
module

public import proofs.«01_k».proof.Proof.Deal
public import proofs.«01_k».proof.Proof.Tile

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs mem_ownRefs_of_owner)
open Idealize.ShloMosaic.Tactic

variable {F : FTy → Type}

local notation "𝕄" => MT nD τ sig (HIx 1) (Elt F) ℕ UU ℕ

/-! ## A subcore's own semaphores and buffers -/

/-- The semaphore of the indices' fetch, of the table row's, and of the half columns' copies out. -/
abbrev cellX (d : Dev nD) (L : grid0.Coords) : GSem nD τ sig := (thr d L, SemLoc.dma cc0_scratch3.sem)
abbrev cellT (d : Dev nD) (L : grid0.Coords) : GSem nD τ sig := (thr d L, SemLoc.dma cc0_scoped0.sem)
abbrev cellC (d : Dev nD) (L : grid0.Coords) : GSem nD τ sig := (thr d L, SemLoc.dma cc0_scoped1.sem)

/-- The subcore's semaphores: the three of the kernel, and the others. -/
theorem ownSems0_eq (d : Dev nD) (L : grid0.Coords) :
    (ownSems0 (thr d L) : sProp 𝕄)
      = iprop(semVal (cellX d L) 0 ∗ semVal (cellT d L) 0 ∗ semVal (cellC d L) 0
          ∗ bigSep ((((ownCells (thr d L)).erase (cellX d L)).erase (cellT d L)).erase (cellC d L)) fun g => semVal g 0) := by
  have hX : cellX d L ∈ ownCells (thr d L) :=
    mem_ownCells.mpr ⟨rfl, show (SemLoc.dma cc0_scratch3.sem : SemLoc sig).isScoped .scVector = true by decide⟩
  have hT : cellT d L ∈ ownCells (thr d L) :=
    mem_ownCells.mpr ⟨rfl, show (SemLoc.dma cc0_scoped0.sem : SemLoc sig).isScoped .scVector = true by decide⟩
  have hC : cellC d L ∈ ownCells (thr d L) :=
    mem_ownCells.mpr ⟨rfl, show (SemLoc.dma cc0_scoped1.sem : SemLoc sig).isScoped .scVector = true by decide⟩
  have hTX : cellT d L ≠ cellX d L := fun e =>
    absurd (Prod.mk.inj e).2 (show (SemLoc.dma cc0_scoped0.sem : SemLoc sig) ≠ SemLoc.dma cc0_scratch3.sem by decide)
  have hCX : cellC d L ≠ cellX d L := fun e =>
    absurd (Prod.mk.inj e).2 (show (SemLoc.dma cc0_scoped1.sem : SemLoc sig) ≠ SemLoc.dma cc0_scratch3.sem by decide)
  have hCT : cellC d L ≠ cellT d L := fun e =>
    absurd (Prod.mk.inj e).2 (show (SemLoc.dma cc0_scoped1.sem : SemLoc sig) ≠ SemLoc.dma cc0_scoped0.sem by decide)
  unfold SparseCore.Cfg.ownSems0
  rw [SparseCore.bigSep_erase' hX, SparseCore.bigSep_erase' (Finset.mem_erase.mpr ⟨hTX, hT⟩),
    SparseCore.bigSep_erase' (Finset.mem_erase.mpr ⟨hCT, Finset.mem_erase.mpr ⟨hCX, hC⟩⟩)]

/-- A buffer that a subcore's program names, as the processor's. -/
abbrev scratchRef (L : grid0.Coords) (b : Ref sig .scVector) : DevRef τ sig := (Proc.scVector (cV L) (jV L)).devRef b

theorem scratchRef_ne (L : grid0.Coords) {a b : Ref sig .scVector} (h : a ≠ b) : scratchRef L a ≠ scratchRef L b :=
  fun e => absurd (Proc.devRef_injective _ e) h

/-- The subcore's buffers: the three of the kernel, at some contents, and the others. -/
theorem ownBufs_eq (d : Dev nD) (L : grid0.Coords) :
    (ownBufs (thr d L) : sProp 𝕄)
      = iprop((∃ t, (thr d L).loc cc0_scratch0 ↦{fullShare} t) ∗ (∃ x, (thr d L).loc cc0_scratch1 ↦{fullShare} x)
          ∗ (∃ s, (thr d L).loc cc0_scratch2 ↦{fullShare} s)
          ∗ bigSep ((((ownRefs (τ := τ) (.scVector (cV L) (jV L))).erase (scratchRef L cc0_scratch0)).erase (scratchRef L cc0_scratch1)).erase
              (scratchRef L cc0_scratch2)) fun b => iprop(∃ f, ((d, b) : Loc nD τ sig) ↦{fullShare} f)) := by
  have h0 : scratchRef L cc0_scratch0 ∈ ownRefs (τ := τ) (.scVector (cV L) (jV L)) := mem_ownRefs_of_owner rfl
  have h1 : scratchRef L cc0_scratch1 ∈ ownRefs (τ := τ) (.scVector (cV L) (jV L)) := mem_ownRefs_of_owner rfl
  have h2 : scratchRef L cc0_scratch2 ∈ ownRefs (τ := τ) (.scVector (cV L) (jV L)) := mem_ownRefs_of_owner rfl
  unfold SparseCore.Cfg.ownBufs
  refine (SparseCore.bigSep_erase' h0).trans ?_
  rw [SparseCore.bigSep_erase' (Finset.mem_erase.mpr ⟨scratchRef_ne L (show (cc0_scratch1 : Ref sig .scVector) ≠ cc0_scratch0 by decide), h1⟩),
    SparseCore.bigSep_erase' (Finset.mem_erase.mpr ⟨scratchRef_ne L (show (cc0_scratch2 : Ref sig .scVector) ≠ cc0_scratch1 by decide),
      Finset.mem_erase.mpr ⟨scratchRef_ne L (show (cc0_scratch2 : Ref sig .scVector) ≠ cc0_scratch0 by decide), h2⟩⟩)]

/-! ## The task -/

theorem k0_t1_trips : k0_t1_loop.trips = 26 := by decide +kernel

/-- With all 26 tables done, every element the subcore owns is in place. -/
theorem done_all {L : grid0.Coords} {G f : S832x16384.Idx → Elt F .f32} (h : Done L (2 * k0_t1_loop.trips) G f) :
    ∀ i ∈ own L, f i = G i := fun i hi => h i hi (by
  rw [k0_t1_trips]
  have h0 : (i 0).val < 832 := (i 0).isLt
  have h1 : (i 1).val < 16384 := (i 1).isLt
  omega)

variable [FloatOps F] (m : (ℓ : Loc nD τ sig) → Buf (Elt F) ℓ)

/-- The task at `L`: from the arrays' shares and the columns owned as they were, to the same with the columns in place. -/
theorem wp_task (d : Dev nD) (L : grid0.Coords) (q : PosShare TreeShare) (hm : InRange m) (f : S832x16384.Idx → Elt F .f32)
    (O : CellTallies nD τ sig (HIx 1)) (W : Waits sig (HIx 1)) (hO : ∀ g, O g none = 0) :
    iprop(levAts (K (F := F)).L (K (F := F)).lev ∗ emp ∗ part m d q (own L) f
        ∗ scopedBufs (thr d L) ∗ scopedSems0 (thr d L) ∗ owes (thr d L) O W)
      ⊢ wp frame (wpE (defs₀ (F := F)) 𝒱₀ (thr d L) none) Set.univ
          (cc0__embed_cols (F := F) L xtV (Memref.isWhole_whole _) ttV (Memref.isWhole_whole _) colV
            (Memref.isWhole_whole _) sT (Memref.isWhole_whole _) sX (Memref.isWhole_whole _) sC (Memref.isWhole_whole _)
            cc0_scratch3 cc0_scoped0 cc0_scoped1)
          fun _ => iprop(part m d q (own L) (colOf m d) ∗ scopedBufs (thr d L) ∗ scopedSems0 (thr d L)
            ∗ ∃ W', ⌜∀ p ∈ W', p ∈ W ∨ p.2 = none⌝ ∗ owes (thr d L) O W') := by
  rw [(K (F := F)).scopedBufs_V launch_facts d (cV L) (jV L), SparseCore.Cfg.scopedSems0_V (Val := Elt F) d (cV L) (jV L),
    ownSems0_eq, ownBufs_eq]
  unfold part
  iintro ⟨#Hlv, -, ⟨Hxt, Htt, Hcol⟩, ⟨⟨%t, HT⟩, ⟨%x, HX⟩, ⟨%s, HC⟩, Hbufs⟩, ⟨Hs0, Hs1, Hs2, Hsems⟩, HO⟩
  ihave Hmw := ((K (F := F)).mayWaits_none (thr := thr d L) hO) $$ Hlv
  iapply (wp_kernel d L q (xt := xtOf m d) (ttOf m d) O W (xtOf_lt m hm d) (f := f) (x := x) (t := t) (s := s)) $$ [Hmw Hxt Htt HX HT HC Hcol Hs0 Hs1 Hs2 HO]
  · isplitl [Hmw]; · iexact Hmw
    isplitl [Hxt]; · iexact Hxt
    isplitl [Htt]; · iexact Htt
    isplitl [HX]; · iexact HX
    isplitl [HT]; · iexact HT
    isplitl [HC]; · iexact HC
    isplitl [Hcol]; · iexact Hcol
    isplitl [Hs0]; · iexact Hs0
    isplitl [Hs1]; · iexact Hs1
    isplitl [Hs2]; · iexact Hs2
    iexact HO
  unfold tileInv
  iintro ⟨-, Hxt, Htt, ⟨%x', HX⟩, ⟨%t', HT⟩, ⟨%s', HC⟩, ⟨%f', %hf, Hcol⟩, Hs0, Hs1, Hs2, HO⟩
  ihave Hcol := (Entails.of_eq (pointsTo_congr (done_all hf))) $$ Hcol
  isplitl [Hxt Htt Hcol]
  · isplitl [Hxt]; · iexact Hxt
    isplitl [Htt]; · iexact Htt
    iexact Hcol
  isplitl [HX HT HC Hbufs]
  · isplitl [HT]; · iexists _; iexact HT
    isplitl [HX]; · iexists _; iexact HX
    isplitl [HC]; · iexists _; iexact HC
    iexact Hbufs
  isplitl [Hs0 Hs1 Hs2 Hsems]
  · isplitl [Hs0]; · iexact Hs0
    isplitl [Hs1]; · iexact Hs1
    isplitl [Hs2]; · iexact Hs2
    iexact Hsems
  iexact HO

/-! ## The launch's obligation -/

/-- What a vector subcore runs at the launch: the kernel, at the subcore's coordinates. -/
theorem defs₀_vector (c : Fin τ.nSC) (s : Fin τ.nSub) :
    defs₀ (F := F) (.scVector c s) 0 ()
      = SparseCore.onTile hcore0 hsub0 (fun c s => cc0__embed_cols (coordsV c s) xtV (Memref.isWhole_whole _) ttV (Memref.isWhole_whole _) colV
          (Memref.isWhole_whole _) sT (Memref.isWhole_whole _) sX (Memref.isWhole_whole _) sC (Memref.isWhole_whole _)
          cc0_scratch3 cc0_scoped0 cc0_scoped1) ⟨⟩ c s := rfl

omit [FloatOps F] in
/-- The kernel waits for no other launch. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task takes what the launch hands it to what the launch takes back. -/
theorem tileObl (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (wp_task m d (coordsV ⟨_, hc.1⟩ ⟨_, hc.2⟩) (tileShare (Fin.cast nCore_zero c) (Fin.cast nSub_zero i)) hm (m (colLoc d)) O W hO).trans
    (wp_mono frame _ _ fun _ => waits_weaken)

end Cert.Proof.Columns

end
-- ==== Proof.Run.lean ====
/-
  The run of the embedding-columns program: the arguments are transposed, the launch fills the array of columns, and the
  result is its transpose. Stated once, for float elements of any interpretation.
-/
module

public import proofs.«01_k».proof.Proof.Task

@[expose] public section

noncomputable section

namespace Cert.Proof.Columns

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.SparseCore.Cfg (HIx Pay)
open Idealize.ShloMosaic.Tactic

variable {F : FTy → Type}

local notation "𝕄" => MT nD τ sig (HIx 1) (Elt F) ℕ UU ℕ

/-! ## The ghost state at launch: the handshakes' rounds -/

def u₀ : UU := (initOf (K (F := F)).hsCells (K (F := F)).hsToks, 1)

theorem bigSep_empty {I : Type} (s : Finset I) : (bigSep s fun _ => iprop(emp)) = (iprop(emp) : sProp 𝕄) := bigSep_emp_const s

variable (m : (ℓ : Loc nD τ sig) → Buf (Elt F) ℓ) (ρ : Dev nD → PrngReg)

theorem ghost_init : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_empty _).trans (bigSep_empty _)
  rw [hx, bigSep_empty]
  unfold u₀
  iintro Hu
  ihave H := (ownU_pair _ _) $$ Hu
  icases H with ⟨HH, -⟩
  imodintro
  isplitl [HH]; · iexact HH
  isplitr <;> iempintro

/-! ## The arrays on the TensorCore -/

abbrev bX : DevRef τ sig := Proc.devRef .tc (main_arg0 : Ref sig .tc)
abbrev bTab : DevRef τ sig := Proc.devRef .tc (main_arg1 : Ref sig .tc)
abbrev bXt : DevRef τ sig := Proc.devRef .tc (main_v0 : Ref sig .tc)
abbrev bTt : DevRef τ sig := Proc.devRef .tc (main_v1 : Ref sig .tc)
abbrev bCol : DevRef τ sig := Proc.devRef .tc (main_v2 : Ref sig .tc)
abbrev bRes : DevRef τ sig := Proc.devRef .tc (main_v3 : Ref sig .tc)

/-- The three transpositions. -/
abbrev opX : HloOp τ sig (Elt F) := StableHlo.unary main_arg0 main_v0
  ((transpose S26x16384 [1, 0] · transposes_S16384x26_S26x16384_1_0) : (⟨S16384x26, .i32⟩ : BufTy).Contents (Elt F) → (⟨S26x16384, .i32⟩ : BufTy).Contents (Elt F))
abbrev opTab : HloOp τ sig (Elt F) := StableHlo.unary main_arg1 main_v1
  ((transpose S26x32x100000 [0, 2, 1] · transposes_S26x100000x32_S26x32x100000_0_2_1) :
    (⟨S26x100000x32, .f32⟩ : BufTy).Contents (Elt F) → (⟨S26x32x100000, .f32⟩ : BufTy).Contents (Elt F))
abbrev opRes : HloOp τ sig (Elt F) := StableHlo.unary main_v2 main_v3
  ((transpose S16384x832 [1, 0] · transposes_S832x16384_S16384x832_1_0) : (⟨S832x16384, .f32⟩ : BufTy).Contents (Elt F) → (⟨S16384x832, .f32⟩ : BufTy).Contents (Elt F))

/-- The six arrays of the program. -/
abbrev arrays : Finset (DevRef τ sig) := {bX, bTab, bXt, bTt, bCol, bRes}

/-- The arrays held at a valuation, one by one. -/
theorem held_arrays (d : Dev nD) (U : Valuation τ sig (Elt F)) :
    (held (SparseCore.T d) arrays U : sProp 𝕄) = iprop((xLoc d ↦{fullShare} U bX) ∗ (tabLoc d ↦{fullShare} U bTab) ∗ (xtLoc d ↦{fullShare} U bXt)
      ∗ (ttLoc d ↦{fullShare} U bTt) ∗ (colLoc d ↦{fullShare} U bCol) ∗ resLoc d ↦{fullShare} U bRes) := by
  unfold held arrays
  rw [SparseCore.bigSep_insert' (by decide), SparseCore.bigSep_insert' (by decide), SparseCore.bigSep_insert' (by decide),
    SparseCore.bigSep_insert' (by decide), SparseCore.bigSep_insert' (by decide), bigSep_singleton]

/-- The contents at launch, after the arguments' transpositions, after the launch, and at the end. -/
abbrev V0 (d : Dev nD) : Valuation τ sig (Elt F) := fun b => m (d, b)
abbrev V1 (d : Dev nD) : Valuation τ sig (Elt F) := (opX (F := F)).result (V0 m d)
abbrev V2 (d : Dev nD) : Valuation τ sig (Elt F) := (opTab (F := F)).result (V1 m d)
abbrev V3 (d : Dev nD) : Valuation τ sig (Elt F) := Function.update (V2 m d) bCol (colOf m d)
abbrev V4 (d : Dev nD) : Valuation τ sig (Elt F) := (opRes (F := F)).result (V3 m d)

theorem unscoped_arrays (d : Dev nD) : (unscopedBufs d (fun b => m ((SparseCore.T d).loc b)) : sProp 𝕄) = held (SparseCore.T d) arrays (V0 m d) := by
  rw [held_arrays]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- Before the launch the transposes are in place, and the other arrays are as at launch. -/
theorem V1_ne (d : Dev nD) {r : Ref sig .tc} (h : r ≠ main_v0) : V1 m d (Proc.devRef .tc r) = V0 m d (Proc.devRef .tc r) :=
  StableHlo.unary_result_ne _ _ _ _ _ _ h
theorem V2_ne (d : Dev nD) {r : Ref sig .tc} (h : r ≠ main_v1) : V2 m d (Proc.devRef .tc r) = V1 m d (Proc.devRef .tc r) :=
  StableHlo.unary_result_ne _ _ _ _ _ _ h
theorem V4_ne (d : Dev nD) {r : Ref sig .tc} (h : r ≠ main_v3) : V4 m d (Proc.devRef .tc r) = V3 m d (Proc.devRef .tc r) :=
  StableHlo.unary_result_ne _ _ _ _ _ _ h

theorem V2_x (d : Dev nD) : V2 m d bX = m (xLoc d) := (V2_ne m d (by decide)).trans (V1_ne m d (by decide))
theorem V2_tab (d : Dev nD) : V2 m d bTab = m (tabLoc d) := (V2_ne m d (by decide)).trans (V1_ne m d (by decide))
theorem V2_col (d : Dev nD) : V2 m d bCol = m (colLoc d) := (V2_ne m d (by decide)).trans (V1_ne m d (by decide))
theorem V2_xt (d : Dev nD) : V2 m d bXt = xtOf m d := (V2_ne m d (by decide)).trans (StableHlo.unary_result _ _ _ _ _ _)
theorem V2_tt (d : Dev nD) : V2 m d bTt = ttOf m d :=
  (StableHlo.unary_result _ _ _ _ _ (V1 m d)).trans (by rw [V1_ne m d (by decide)]; rfl)

/-- At the end the result is in place, and the arguments are as at launch. -/
theorem V3_col (d : Dev nD) : V3 m d bCol = colOf m d := Function.update_self _ _ _
theorem V3_ne (d : Dev nD) {b : DevRef τ sig} (h : b ≠ bCol) : V3 m d b = V2 m d b := Function.update_of_ne h _ _
theorem V4_x (d : Dev nD) : V4 m d bX = m (xLoc d) := ((V4_ne m d (by decide)).trans (V3_ne m d (by decide))).trans (V2_x m d)
theorem V4_tab (d : Dev nD) : V4 m d bTab = m (tabLoc d) := ((V4_ne m d (by decide)).trans (V3_ne m d (by decide))).trans (V2_tab m d)
theorem V4_res (d : Dev nD) : V4 m d bRes = resOf m d :=
  (StableHlo.unary_result _ _ _ _ _ (V3 m d)).trans (by rw [V3_col]; rfl)

theorem opX_sub : (opX (F := F)).bufs ⊆ arrays := show ({bX, bXt} : Finset (DevRef τ sig)) ⊆ arrays by decide
theorem opTab_sub : (opTab (F := F)).bufs ⊆ arrays := show ({bTab, bTt} : Finset (DevRef τ sig)) ⊆ arrays by decide
theorem opRes_sub : (opRes (F := F)).bufs ⊆ arrays := show ({bCol, bRes} : Finset (DevRef τ sig)) ⊆ arrays by decide

/-- The arrays that the launch does not take. -/
abbrev rest (d : Dev nD) : sProp 𝕄 :=
  iprop((xLoc d ↦{fullShare} m (xLoc d)) ∗ (tabLoc d ↦{fullShare} m (tabLoc d)) ∗ resLoc d ↦{fullShare} V2 m d bRes)

/-- The arrays before the launch: what it takes, and the rest. -/
theorem held_before (d : Dev nD) :
    (held (SparseCore.T d) arrays (V2 m d) : sProp 𝕄) ⊢ iprop(part m d fullShare Finset.univ (m (colLoc d)) ∗ rest m d) := by
  rw [held_arrays, V2_x, V2_tab, V2_xt, V2_tt, V2_col]
  unfold part
  iintro ⟨Hx, Htab, Hxt, Htt, Hcol, Hres⟩
  isplitl [Hxt Htt Hcol]
  · isplitl [Hxt]; · iexact Hxt
    isplitl [Htt]; · iexact Htt
    iexact Hcol
  isplitl [Hx]; · iexact Hx
  isplitl [Htab]; · iexact Htab
  iexact Hres

/-- The arrays after it. -/
theorem held_after (d : Dev nD) :
    (iprop(part m d fullShare Finset.univ (colOf m d) ∗ rest m d) : sProp 𝕄) ⊢ held (SparseCore.T d) arrays (V3 m d) := by
  rw [held_arrays, V3_ne m d (b := bX) (by decide), V3_ne m d (b := bTab) (by decide), V3_ne m d (b := bXt) (by decide),
    V3_ne m d (b := bTt) (by decide), V3_col, V3_ne m d (b := bRes) (by decide), V2_x, V2_tab, V2_xt, V2_tt]
  unfold part
  iintro ⟨⟨Hxt, Htt, Hcol⟩, Hx, Htab, Hres⟩
  isplitl [Hx]; · iexact Hx
  isplitl [Htab]; · iexact Htab
  isplitl [Hxt]; · iexact Hxt
  isplitl [Htt]; · iexact Htt
  isplitl [Hcol]; · iexact Hcol
  iexact Hres

/-- What the program leaves: the arguments as they were, and the result. -/
abbrev final (d : Dev nD) : sProp 𝕄 :=
  iprop((xLoc d ↦{fullShare} m (xLoc d)) ∗ (tabLoc d ↦{fullShare} m (tabLoc d)) ∗ resLoc d ↦{fullShare} (resOf m d : Buf (Elt F) (resLoc d)))

theorem held_final (d : Dev nD) : (held (SparseCore.T d) arrays (V4 m d) : sProp 𝕄) ⊢ final m d := by
  rw [held_arrays, V4_x, V4_tab, V4_res]
  iintro ⟨Hx, Htab, -, -, -, Hres⟩
  isplitl [Hx]; · iexact Hx
  isplitl [Htab]; · iexact Htab
  iexact Hres

variable [FloatOps F]

/-- The program on a device's TensorCore: two transpositions, the launch, a transposition. -/
theorem wp_main (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opX) (S := arrays) opX_sub (V := V0 m d)) $$ [Hb Hheld]
  · isplitl [Hb] <;> iassumption
  iintro ⟨Hb, Hheld⟩
  rw [wp_ret]; imodintro
  iapply (wp_hlo_within 𝒱 (SparseCore.T d) none Set.univ (op := opTab) (S := arrays) opTab_sub (V := V1 m d)) $$ [Hb Hheld]
  · isplitl [Hb] <;> iassumption
  iintro ⟨Hb, Hheld⟩
  rw [wp_ret]; imodintro
  ihave Hh := (held_before m d) $$ Hheld
  icases Hh with ⟨Hpart, Hrest⟩
  iapply ((K (F := F)).wp_run (D (F := F)) 𝒱 (EH := EH) (P := P m) κ d 0) $$ [Hst Hpart Hrest Hb Hts]
  isplitr; · iexact Hctx
  isplitl [Hst]; · iexact Hst
  isplitl [Hpart]
  · rw [st_eq]; iexact Hpart
  iintro ⟨Hst, Hdn⟩
  ihave Hpart := (Entails.of_eq (dn_eq m d)) $$ Hdn
  ihave Hheld := (held_after m d) $$ [Hpart Hrest]
  · isplitl [Hpart] <;> iassumption
  iapply (wp_hlo_within 𝒱 (SparseCore.T d) none Set.univ (op := opRes) (S := arrays) opRes_sub (V := V3 m d)) $$ [Hb Hheld]
  · isplitl [Hb] <;> iassumption
  iintro ⟨Hb, Hheld⟩
  ihave Hfin := (held_final m d) $$ Hheld
  rw [wp_ret]; imodintro; imodintro
  isplitl [Hst]; · iexact Hst
  isplitl [Hfin]; · iexact Hfin
  isplitl [Hb] <;> iassumption

/-! ## The run -/

/-- On device `d`: the arguments as they were, and the result in place. -/
def Left (d : Dev nD) (mem : (ℓ : Loc nD τ sig) → Buf (Elt F) ℓ) : Prop :=
  mem (xLoc d) = m (xLoc d) ∧ mem (tabLoc d) = m (tabLoc d) ∧ mem (resLoc d) = resOf m d

omit [FloatOps F] in
theorem final_left (d : Dev nD) (s' : Phys nD τ sig (Elt F)) : iprop(final m d ∗ SI s') ⊢ (⌜Left m d s'.mem.mem⌝ : sProp 𝕄) := by
  iintro ⟨⟨Hx, Htab, Hres⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := resLoc d) (I := Finset.univ) (q := fullShare) (f := (resOf m d : Buf (Elt F) (resLoc d)))) $$ [HSI Hres]
  · isplitl [HSI] <;> iassumption
  icases H with %h3
  ipureintro
  exact ⟨funext fun i => h1 i (Finset.mem_univ i), funext fun i => h2 i (Finset.mem_univ i), funext fun i => h3 i (Finset.mem_univ i)⟩

/-- Every run of the program, from a memory whose indices all name elements of their tables, ends with the arguments as
    they were, the result in place, and every semaphore at zero. -/
theorem run_main [∀ e, Nonempty (Elt F e)] (hm : InRange m) :
    θ_run (Cert.KernelIdeal.defs (F := F)) (Cert.KernelIdeal.threads (F := F)) ⟨m, fun _ => 0, ρ⟩
      fun r => (∀ d : Dev nD, Left m d r.2.mem) ∧ r.2.sem = fun _ => 0 :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m hm)
    (fun q _ => match q with | 0 => SparseCore.Cfg.VecSplit.of_plain (vecSplit m))
    m ρ main (fun _ => iprop(emp)) (final m) (u₀ (F := F)) (sep_elim_left.trans (ghost_init m)) (wp_main m ρ)
    (fun d s' => Left m d s'.mem.mem) (final_left m) (fun r => (∀ d : Dev nD, Left m d r.2.mem) ∧ r.2.sem = fun _ => 0)
    (fun _ h hz => ⟨h, hz⟩)

end Cert.Proof.Columns

end
-- ==== Proof.Range.lean ====
/-
  The precondition in plain terms: every index lies inside the vocabulary.
-/
module

public import proofs.«01_k».proof.Pre_in_vocabulary
public import proofs.«01_k».proof.Proof.Gen.Pre_in_vocabulary
public import Idealize.ShloMosaic.Lib.StableHlo.Predicate

@[expose] public section

noncomputable section

namespace Cert.Proof.Columns

open Idealize.ShloMosaic Cert.Pre_in_vocabulary

/-- A word that is at least 0 and below 100000, both signed, is below 100000 as a natural number. -/
theorem lt_of_bounds {v : BitVec 32} (h : IntOp.andi (IntOp.cmpi .sge v 0#32) (IntOp.cmpi .slt v 100000#32) = 1#1) :
    v.toNat < 100000 := by
  have split : ∀ a b : Bool, IntOp.andi (BitVec.ofBool a) (BitVec.ofBool b) = 1#1 → a = true ∧ b = true := by decide
  obtain ⟨h₁, h₂⟩ := split _ _ h
  have n₁ : (0 : ℤ) ≤ v.toInt := by simpa [BitVec.sle_eq_decide] using h₁
  have n₂ : v.toInt < 100000 := by simpa [BitVec.slt_eq_decide] using h₂
  rw [BitVec.toInt_eq_toNat_cond] at n₁ n₂
  split at n₁ <;> omega

/-- Where the precondition's mask is all ones, every index lies inside the vocabulary. -/
theorem range_of_ones {F : FTy → Type} [FloatOps F] {x : S16384x26.Idx → BitVec 32} {tb : S26x100000x32.Idx → F .f32}
    (h : fn (F := F) x tb = fun _ => 1#1) (i : S16384x26.Idx) : (x i).toNat < 100000 :=
  lt_of_bounds (congrFun h i)

end Cert.Proof.Columns

end

end
-- ==== Proof.RefField.lean ====
/-
  What the reference computes for one field.

  The reference looks the batch up in each field's table by the same chain of operations: a column of the indices, a
  wrap of negative indices, and a gather of the table's rows. The chain is written here once, at a symbolic field, and
  read at an index: for indices inside the vocabulary it is the table's row.
-/
module

public import proofs.«01_k».proof.Proof.Gen.ReferenceIdeal
public import Idealize.ShloMosaic.Lib.Routing.Ops
public import Idealize.ShloMosaic.Lib.Routing.OpsPair
public import Idealize.ShloMosaic.Lib.Pipeline.Value

@[expose] public section

noncomputable section

namespace Cert.Proof.Columns

open Cert.ReferenceIdeal Cert.ReferenceIdeal.Gen Idealize.ShloMosaic Idealize.ShloMosaic.ValueIdx
open Idealize.ShloMosaic.Routing

variable {F : FTy → Type} [FloatOps F]

/-- The batch's indices into one field's table: column `f` of the indices. -/
def batchOf (x : S16384x26.Idx → BitVec 32) (f : ℕ) (hf : S16384x26.Slices ![0, f] S16384x1) :
    S16384.Idx → BitVec 32 :=
  shapeCast S16384 (extractStridedSlice S16384x1 ![0, f] x hf) shapeCasts_S16384x1_S16384

/-- One field's table, as a matrix. -/
def tableOf (tb : S26x100000x32.Idx → F .f32) (f : ℕ) (hf : S26x100000x32.Slices ![f, 0, 0] S1x100000x32) :
    S100000x32.Idx → F .f32 :=
  shapeCast S100000x32 (extractStridedSlice S1x100000x32 ![f, 0, 0] tb hf) shapeCasts_S1x100000x32_S100000x32

/-- Indices with the vocabulary added to the negative ones, as one column. -/
def wrapped (v : S16384.Idx → BitVec 32) : S16384x1.Idx → BitVec 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 100000#32))) v)

/-- The lookup of the indices `v` in the table `t`. -/
def looked (v : S16384.Idx → BitVec 32) (t : S100000x32.Idx → F .f32) : S16384x32.Idx → F .f32 :=
  Host.gather gather_S100000x32_S16384x1_S16384x32_1_0_n_n_0_1_132 t (wrapped v)

/-- A field's indices read at a batch row. -/
theorem batchOf_apply (x : S16384x26.Idx → BitVec 32) (f : Fin 26) (hf) (b : Fin 16384) :
    batchOf x f.val hf (ix1 b) = x (ix2 b f) := by
  refine (cast21 _ _ b (0 : Fin 1) b (by simp)).trans ?_
  unfold extractStridedSlice
  refine congrArg x (funext fun a => Fin.ext ?_)
  match a with
  | ⟨0, _⟩ => exact Nat.zero_add _
  | ⟨1, _⟩ => exact Nat.add_zero _

/-- A field's table read at a row and a lane. -/
theorem tableOf_apply (tb : S26x100000x32.Idx → F .f32) (f : Fin 26) (hf) (r : Fin 100000) (l : Fin 32) :
    tableOf tb f.val hf (ix2 r l) = tb (ix3 f r l) := by
  refine (shapeCast_apply _ _ (ix2 r l) (ix3 (0 : Fin 1) r l) ?_).trans ?_
  · rw [Shape.rowMajor_val_two, Shape.rowMajor_val_three]
    show (0 * 100000 + r.val) * 32 + l.val = r.val * 32 + l.val
    omega
  · unfold extractStridedSlice
    refine congrArg tb (funext fun a => Fin.ext ?_)
    match a with
    | ⟨0, _⟩ => exact Nat.add_zero _
    | ⟨1, _⟩ => exact Nat.zero_add _
    | ⟨2, _⟩ => exact Nat.zero_add _

/-- An index of the vocabulary is not negative, so the wrap leaves it. -/
theorem wrapped_apply {v : S16384.Idx → BitVec 32} (b : Fin 16384) (hv : (v (ix1 b)).toNat < 100000) :
    wrapped v (ix2 b (0 : Fin 1)) = v (ix1 b) :=
  (bcCol _ _ b).trans (wrap_of_lt (v (ix1 b)) _ (by omega))

/-- The lookup of indices of the vocabulary reads each index's row of the table. -/
theorem looked_apply {v : S16384.Idx → BitVec 32} (hv : ∀ b, (v (ix1 b)).toNat < 100000)
    (t : S100000x32.Idx → F .f32) (b : Fin 16384) (l : Fin 32) :
    looked v t (ix2 b l) = t (ix2 ⟨(v (ix1 b)).toNat, hv b⟩ l) := by
  refine gather_row _ rfl rfl rfl rfl rfl t (wrapped v) b l ⟨(v (ix1 b)).toNat, hv b⟩ ?_ (by norm_num)
  rw [wrapped_apply b (hv b)]
  simp

end Cert.Proof.Columns

end

end
-- ==== Proof.RefValue.lean ====
/-
  What the reference leaves: the lookups of its 26 fields side by side, read at an index.

  The reference joins the lookups of fields 0 to 15 into one array, of fields 16 to 25 into another, and the two. Read
  at row `b` and column `c`, for indices inside the vocabulary, the result is lane `c % 32` of the row that index
  `(b, c / 32)` names in table `c / 32`.
-/
module

public import proofs.«01_k».proof.Proof.RefField
public import proofs.«01_k».proof.Proof.Gen.ReferenceIdeal.Run

@[expose] public section

noncomputable section

namespace Cert.Proof.Columns

open Cert.ReferenceIdeal Cert.ReferenceIdeal.Gen Cert.ReferenceIdeal.Value
open Idealize.ShloMosaic Idealize.ShloMosaic.TcCoe Idealize.ShloMosaic.ValueIdx Idealize.ShloMosaic.StableHlo
open Idealize.SL.Sem

variable {F : FTy → Type} [FloatOps F]

/-- The lookup as mathematics: at `(b, c)`, lane `c % 32` of the row that index `(b, c / 32)` names in table `c / 32`. -/
def entry {α : Type} (x : S16384x26.Idx → BitVec 32) (tb : S26x100000x32.Idx → α) : S16384x832.Idx → α := fun j =>
  tb (ix3 ⟨(j 1).val / 32, Nat.div_lt_of_lt_mul (j 1).isLt⟩
    ⟨(x (ix2 (j 0) ⟨(j 1).val / 32, Nat.div_lt_of_lt_mul (j 1).isLt⟩)).toNat % 100000, Nat.mod_lt _ (by decide)⟩
    ⟨(j 1).val % 32, Nat.mod_lt _ (by decide)⟩)

/-- Every field is a column of the indices. -/
theorem batch_slices (f : Fin 26) : S16384x26.Slices ![0, f.val] S16384x1 :=
  ⟨rfl, fun a => match a with
    | ⟨0, _⟩ => (Nat.zero_add _).le
    | ⟨1, _⟩ => f.isLt⟩

/-- Every field is a matrix of the tables. -/
theorem table_slices (f : Fin 26) : S26x100000x32.Slices ![f.val, 0, 0] S1x100000x32 :=
  ⟨rfl, fun a => match a with
    | ⟨0, _⟩ => f.isLt
    | ⟨1, _⟩ => (Nat.zero_add _).le
    | ⟨2, _⟩ => (Nat.zero_add _).le⟩

/-- One field's lookup. -/
def field (x : S16384x26.Idx → BitVec 32) (tb : S26x100000x32.Idx → F .f32) (f : Fin 26) : S16384x32.Idx → F .f32 :=
  looked (batchOf x f.val (batch_slices f)) (tableOf tb f.val (table_slices f))

/-- One field's lookup read at a batch row and a lane. -/
theorem field_apply {x : S16384x26.Idx → BitVec 32} (hx : ∀ i, (x i).toNat < 100000) (tb : S26x100000x32.Idx → F .f32)
    (f : Fin 26) (b : Fin 16384) (l : Fin 32) :
    field x tb f (ix2 b l) = tb (ix3 f ⟨(x (ix2 b f)).toNat, hx _⟩ l) := by
  have hb := fun b => batchOf_apply x f (batch_slices f) b
  refine (looked_apply (fun b => by rw [hb]; exact hx _) _ b l).trans ?_
  refine (tableOf_apply tb f _ _ l).trans ?_
  refine congrArg (fun r => tb (ix3 f r l)) (Fin.ext ?_)
  exact congrArg BitVec.toNat (hb b)

/-- The same, the lane and the field given as the quotient and remainder of a column. -/
theorem field_entry {x : S16384x26.Idx → BitVec 32} (hx : ∀ i, (x i).toNat < 100000) (tb : S26x100000x32.Idx → F .f32)
    (j : S16384x832.Idx) (f : Fin 26) (hf : f.val = (j 1).val / 32) (l : Fin 32) (hl : l.val = (j 1).val % 32) :
    field x tb f (ix2 (j 0) l) = entry x tb j := by
  obtain ⟨f, hf'⟩ := f
  obtain ⟨l, hl'⟩ := l
  cases hf
  cases hl
  refine (field_apply hx tb _ (j 0) _).trans ?_
  unfold entry
  refine congrArg (fun r => tb (ix3 _ r _)) (Fin.ext ?_)
  exact (Nat.mod_eq_of_lt (hx _)).symm

variable (V0 : Valuation τ sig (Elt F))

/-- The first sixteen fields, joined. -/
theorem first_eq : ∃ h, res_main_v286 V0 = concatenate S16384x512 1 (List.ofFn fun n : Fin 16 =>
    ⟨S16384x32, field (V0 (Proc.devRef .tc main_arg0)) (V0 (Proc.devRef .tc main_arg1)) ⟨n.val, by omega⟩⟩) h :=
  ⟨_, rfl⟩

/-- The last ten fields, joined. -/
theorem last_eq : ∃ h, res_main_v287 V0 = concatenate S16384x320 1 (List.ofFn fun n : Fin 10 =>
    ⟨S16384x32, field (V0 (Proc.devRef .tc main_arg0)) (V0 (Proc.devRef .tc main_arg1)) ⟨16 + n.val, by omega⟩⟩) h :=
  ⟨_, rfl⟩

/-- The reference's result, for indices inside the vocabulary, is the lookup. -/
theorem joined_eq (hx : ∀ i, ((V0 (Proc.devRef .tc main_arg0)) i : BitVec 32).toNat < 100000) :
    concatenate S16384x832 1 [⟨S16384x512, res_main_v286 V0⟩, ⟨S16384x320, res_main_v287 V0⟩]
        concatenates_S16384x512_S16384x320_S16384x832_d1
      = (entry (V0 (Proc.devRef .tc main_arg0)) (V0 (Proc.devRef .tc main_arg1)) : S16384x832.Idx → Elt F .f32) := by
  funext j
  have hj : (j 1).val < 832 := (j 1).isLt
  by_cases hlt : (j 1).val < 512
  · refine (concatenate_pair_apply_left (s₁ := S16384x512) (s₂ := S16384x320) 1 _ _ _ j rfl (ix2 (j 0) ⟨(j 1).val, hlt⟩) (fun a => ?_)).trans ?_
    · match a with
      | ⟨0, _⟩ => rfl
      | ⟨1, _⟩ => rfl
    obtain ⟨h, e⟩ := first_eq V0
    rw [e]
    refine (concatenate_ofFn_apply 1 _ h rfl 32 rfl _ ⟨(j 1).val / 32, by omega⟩ rfl
      (ix2 (j 0) ⟨(j 1).val % 32, Nat.mod_lt _ (by decide)⟩) rfl (fun a ha => ?_)).trans ?_
    · match a with
      | ⟨0, _⟩ => rfl
      | ⟨1, _⟩ => exact absurd rfl ha
    exact field_entry hx _ j _ rfl _ rfl
  · refine (concatenate_pair_apply_right (s₁ := S16384x512) (s₂ := S16384x320) 1 _ _ _ j rfl rfl
      (ix2 (j 0) ⟨(j 1).val - 512, by omega⟩) (fun a ha => ?_)
      (Nat.sub_add_cancel (Nat.le_of_not_lt hlt))).trans ?_
    · match a with
      | ⟨0, _⟩ => rfl
      | ⟨1, _⟩ => exact absurd rfl ha
    obtain ⟨h, e⟩ := last_eq V0
    rw [e]
    refine (concatenate_ofFn_apply 1 _ h rfl 32 rfl _ ⟨((j 1).val - 512) / 32, by omega⟩ rfl
      (ix2 (j 0) ⟨((j 1).val - 512) % 32, Nat.mod_lt _ (by decide)⟩) rfl (fun a ha => ?_)).trans ?_
    · match a with
      | ⟨0, _⟩ => rfl
      | ⟨1, _⟩ => exact absurd rfl ha
    refine field_entry hx _ j _ ?_ _ ?_
    · show 16 + ((j 1).val - 512) / 32 = _
      omega
    · show ((j 1).val - 512) % 32 = _
      omega

end Cert.Proof.Columns

end

end
-- ==== Proof.Equation.lean ====
/-
  The equation: what the kernel leaves, transposed back, is the lookup that the reference computes.
-/
module

public import proofs.«01_k».proof.Proof.Deal
public import proofs.«01_k».proof.Proof.RefValue

@[expose] public section

noncomputable section

namespace Cert.Proof.Columns

open Cert.KernelIdeal Cert.KernelIdeal.Gen
open Idealize.ShloMosaic Idealize.ShloMosaic.ValueIdx

variable {F : FTy → Type} [FloatOps F]
variable (m : (ℓ : Loc nD τ sig) → Buf (Elt F) ℓ)

/-- The transposed indices read at a field and a batch row. -/
theorem xtOf_apply (d : Dev nD) (f : Fin 26) (b : Fin 16384) :
    xtOf m d (xix f b) = (m (xLoc d) : S16384x26.Idx → BitVec 32) (ix2 b f) :=
  transpose_apply _ _ _ _ _ fun a => match a with
    | ⟨0, _⟩ => rfl
    | ⟨1, _⟩ => rfl

/-- The transposed tables read at a field, a lane and a row. -/
theorem ttOf_apply (d : Dev nD) (f : Fin 26) (l : Fin 32) (r : Fin 100000) :
    ttOf m d (tix f l r) = (m (tabLoc d) : S26x100000x32.Idx → Elt F .f32) (ix3 f r l) :=
  transpose_apply _ _ _ _ _ fun a => match a with
    | ⟨0, _⟩ => rfl
    | ⟨1, _⟩ => rfl
    | ⟨2, _⟩ => rfl

/-- The kernel's result is the lookup of its arguments. -/
theorem resOf_eq (d : Dev nD) :
    resOf m d = entry (m (xLoc d) : S16384x26.Idx → BitVec 32) (m (tabLoc d) : S26x100000x32.Idx → Elt F .f32) := by
  funext j
  refine (transpose_apply _ _ _ j (cix (j 1) (j 0)) fun a => match a with
    | ⟨0, _⟩ => rfl
    | ⟨1, _⟩ => rfl).trans ?_
  refine (ttOf_apply m d _ _ _).trans ?_
  unfold entry
  refine congrArg (fun r => (m (tabLoc d) : S26x100000x32.Idx → Elt F .f32) (ix3 _ r _)) (Fin.ext ?_)
  exact congrArg (fun v : BitVec 32 => v.toNat % 100000) (xtOf_apply m d _ _)

end Cert.Proof.Columns

end

end
-- ==== Proof.lean ====
/-
  The kernel's claims, assembled from one run of the kernel.

  `run_main` (Proof/Run.lean) runs the kernel once, over any float values: it ends with the arguments as they were, the
  result in place and every semaphore counter at zero. The two frames are that run with the result dropped, at the
  float words and at the extended reals. `Equation.lean` reads its result as the lookup of the arguments, `RefValue.lean`
  the reference's as the same lookup, and the algebraic claim puts the two together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_vocabulary
public import proofs.«01_k».proof.Proof.Gen.ReferenceIdeal.Run
public import proofs.«01_k».proof.Proof.Run
public import proofs.«01_k».proof.Proof.Range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Proof.Columns

/-- The kernel over the float words runs, leaves its arguments unchanged and every semaphore counter at zero. -/
theorem frame_kernel : Cert.quiescent_Kernel := fun m ρ hp =>
  (θ_run Cert.KernelIdeal.defs _ _).mono (fun _ h => ⟨fun c => ⟨(h.1 c).1, (h.1 c).2.1⟩, h.2⟩)
    (run_main (F := Bits) m ρ fun d i => range_of_ones (hp d) i)

/-- The kernel over the extended reals does. -/
theorem frame_ideal : Cert.quiescent_KernelIdeal := fun m ρ hp =>
  (θ_run Cert.KernelIdeal.defs _ _).mono (fun _ h => ⟨fun c => ⟨(h.1 c).1, (h.1 c).2.1⟩, h.2⟩)
    (run_main (F := Ideal) m ρ fun d i => range_of_ones (hp d) i)

/-- The reference over the extended reals does, from every memory. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- From memories that agree on the arguments, kernel and reference end with the same result: the lookup. -/
theorem equal_results : Cert.algebraic_KernelIdeal_ReferenceIdeal := fun m ρ m' ρ' hp hag => by
  have hm : InRange m := fun d i => range_of_ones (hp d) i
  refine ⟨fun c => resOf m c, ?_, ?_⟩
  · exact (θ_run Cert.KernelIdeal.defs _ _).mono (fun _ h c => ⟨(h.1 c).2.2, (h.1 c).1, (h.1 c).2.1⟩)
      (run_main (F := Ideal) m ρ hm)
  · refine (θ_run Cert.ReferenceIdeal.defs _ _).mono (fun _ h c => ⟨(h c).1.trans ?_, (h c).2⟩)
      (Cert.ReferenceIdeal.Value.run (F := Ideal) m' ρ')
    have hx : ∀ i, ((m' (c.tc.loc Cert.ReferenceIdeal.main_arg0)) i : BitVec 32).toNat < 100000 := fun i => by
      rw [(hag c).1]; exact hm c i
    refine (joined_eq (StableHlo.launchContents m' c) hx).trans ((?_ : entry _ _ = entry _ _).trans (resOf_eq m c).symm)
    exact congrArg₂ entry (hag c).1 (hag c).2

/-- Every claim of the certificate. -/
theorem claim : Cert.Claim := ⟨Cert.Kernel.Gen.facts, Cert.KernelIdeal.Gen.facts, Cert.ReferenceIdeal.Gen.facts,
  Cert.Pre_in_vocabulary.Gen.facts, frame_kernel, frame_ideal, frame_reference, fun m ρ _ => frame_reference m ρ trivial,
  trivial, equal_results⟩

end Cert.Proof

end
